-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x8192 : Shape := ⟨2, ![4096, 8192]⟩
abbrev S1 : Shape := ⟨1, ![1]⟩
abbrev S512x8192 : Shape := ⟨2, ![512, 8192]⟩
abbrev S8x512x512 : Shape := ⟨3, ![8, 512, 512]⟩
abbrev S4x512x2048 : Shape := ⟨3, ![4, 512, 2048]⟩
abbrev S8 : Shape := ⟨1, ![8]⟩
abbrev S_ : Shape := ⟨0, ![]⟩
abbrev S4 : Shape := ⟨1, ![4]⟩
abbrev S1x512x2048 : Shape := ⟨3, ![1, 512, 2048]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S8x512x512, .fp8e5m2⟩
  | .local _ .vmem, ⟨1, _⟩ => ⟨S8x512x512, .fp8e5m2⟩
  | .local _ .vmem, ⟨2, _⟩ => ⟨S4x512x2048, .f32⟩
  | .local _ .vmem, ⟨3, _⟩ => ⟨S512x8192, .f32⟩
  | .local _ .vmem, ⟨4, _⟩ => ⟨S4096x512, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32 : BitVec 32 := 512#32
  let v27 : BitVec 32 := Scalar.muli v5 c512_i32
  let c0_i32_21 : BitVec 32 := 0#32
  ![v27.toNat, 0]
def k0_off2 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32_22 : BitVec 32 := 512#32
  let v33 : BitVec 32 := Scalar.muli v5 c512_i32_22
  let c2048_i32 : BitVec 32 := 2048#32
  ![v33.toNat, 2048]
def k0_off3 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32_27 : BitVec 32 := 512#32
  let v39 : BitVec 32 := Scalar.muli v5 c512_i32_27
  let c4096_i32 : BitVec 32 := 4096#32
  ![v39.toNat, 4096]
def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v46 : BitVec 32 := Scalar.addi v2 c1_i32_32
  let c8_i32_33 : BitVec 32 := 8#32
  let v47 : BitVec 32 := Scalar.remsi v46 c8_i32_33
  let c1_i32_35 : BitVec 32 := 1#32
  let v48 : BitVec 32 := Scalar.muli v47 c1_i32_35
  let v49 : BitVec 32 := Scalar.addi c0_i32_36 v48
  v49.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_37 : BitVec 32 := 2#32
  let v50 : BitVec 32 := Scalar.addi v2 c2_i32_37
  let c8_i32_38 : BitVec 32 := 8#32
  let v51 : BitVec 32 := Scalar.remsi v50 c8_i32_38
  let c1_i32_40 : BitVec 32 := 1#32
  let v52 : BitVec 32 := Scalar.muli v51 c1_i32_40
  let v53 : BitVec 32 := Scalar.addi c0_i32_41 v52
  v53.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_42 : BitVec 32 := 3#32
  let v54 : BitVec 32 := Scalar.addi v2 c3_i32_42
  let c8_i32_43 : BitVec 32 := 8#32
  let v55 : BitVec 32 := Scalar.remsi v54 c8_i32_43
  let c1_i32_45 : BitVec 32 := 1#32
  let v56 : BitVec 32 := Scalar.muli v55 c1_i32_45
  let v57 : BitVec 32 := Scalar.addi c0_i32_46 v56
  v57.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v58 : BitVec 32 := Scalar.addi v2 c4_i32_47
  let c8_i32_48 : BitVec 32 := 8#32
  let v59 : BitVec 32 := Scalar.remsi v58 c8_i32_48
  let c1_i32_50 : BitVec 32 := 1#32
  let v60 : BitVec 32 := Scalar.muli v59 c1_i32_50
  let v61 : BitVec 32 := Scalar.addi c0_i32_51 v60
  v61.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_52 : BitVec 32 := 5#32
  let v62 : BitVec 32 := Scalar.addi v2 c5_i32_52
  let c8_i32_53 : BitVec 32 := 8#32
  let v63 : BitVec 32 := Scalar.remsi v62 c8_i32_53
  let c1_i32_55 : BitVec 32 := 1#32
  let v64 : BitVec 32 := Scalar.muli v63 c1_i32_55
  let v65 : BitVec 32 := Scalar.addi c0_i32_56 v64
  v65.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_57 : BitVec 32 := 6#32
  let v66 : BitVec 32 := Scalar.addi v2 c6_i32_57
  let c8_i32_58 : BitVec 32 := 8#32
  let v67 : BitVec 32 := Scalar.remsi v66 c8_i32_58
  let c1_i32_60 : BitVec 32 := 1#32
  let v68 : BitVec 32 := Scalar.muli v67 c1_i32_60
  let v69 : BitVec 32 := Scalar.addi c0_i32_61 v68
  v69.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_62 : BitVec 32 := 7#32
  let v70 : BitVec 32 := Scalar.addi v2 c7_i32_62
  let c8_i32_63 : BitVec 32 := 8#32
  let v71 : BitVec 32 := Scalar.remsi v70 c8_i32_63
  let c1_i32_65 : BitVec 32 := 1#32
  let v72 : BitVec 32 := Scalar.muli v71 c1_i32_65
  let v73 : BitVec 32 := Scalar.addi c0_i32_66 v72
  v73.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_96 : BitVec 32 := 0#32
  let c0_i32_97 : BitVec 32 := 0#32
  ![v2.toNat, 0, 0]
def k0_off5 (d0 : Dev nD) (c1_i32_98 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : BitVec 32 := Scalar.addi v2 c1_i32_98
  let c8_i32_99 : BitVec 32 := 8#32
  let v119 : BitVec 32 := Scalar.remsi v118 c8_i32_99
  let c0_i32_107 : BitVec 32 := 0#32
  let c0_i32_108 : BitVec 32 := 0#32
  ![v119.toNat, 0, 0]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_98 : BitVec 32 := 1#32
  let v118 : BitVec 32 := Scalar.addi v2 c1_i32_98
  let c8_i32_99 : BitVec 32 := 8#32
  let v119 : BitVec 32 := Scalar.remsi v118 c8_i32_99
  let c1_i32_103 : BitVec 32 := 1#32
  let v120 : BitVec 32 := Scalar.muli v119 c1_i32_103
  let v121 : BitVec 32 := Scalar.addi c0_i32_104 v120
  v121.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_109 : BitVec 32 := 2#32
  let v130 : BitVec 32 := Scalar.addi v2 c2_i32_109
  let c8_i32_110 : BitVec 32 := 8#32
  let v131 : BitVec 32 := Scalar.remsi v130 c8_i32_110
  let c1_i32_114 : BitVec 32 := 1#32
  let v132 : BitVec 32 := Scalar.muli v131 c1_i32_114
  let v133 : BitVec 32 := Scalar.addi c0_i32_115 v132
  v133.toNat
def k0_dev10 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_120 : BitVec 32 := 3#32
  let v142 : BitVec 32 := Scalar.addi v2 c3_i32_120
  let c8_i32_121 : BitVec 32 := 8#32
  let v143 : BitVec 32 := Scalar.remsi v142 c8_i32_121
  let c1_i32_125 : BitVec 32 := 1#32
  let v144 : BitVec 32 := Scalar.muli v143 c1_i32_125
  let v145 : BitVec 32 := Scalar.addi c0_i32_126 v144
  v145.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v154 : BitVec 32 := Scalar.addi v2 c4_i32_131
  let c8_i32_132 : BitVec 32 := 8#32
  let v155 : BitVec 32 := Scalar.remsi v154 c8_i32_132
  let c1_i32_136 : BitVec 32 := 1#32
  let v156 : BitVec 32 := Scalar.muli v155 c1_i32_136
  let v157 : BitVec 32 := Scalar.addi c0_i32_137 v156
  v157.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_142 : BitVec 32 := 5#32
  let v166 : BitVec 32 := Scalar.addi v2 c5_i32_142
  let c8_i32_143 : BitVec 32 := 8#32
  let v167 : BitVec 32 := Scalar.remsi v166 c8_i32_143
  let c1_i32_147 : BitVec 32 := 1#32
  let v168 : BitVec 32 := Scalar.muli v167 c1_i32_147
  let v169 : BitVec 32 := Scalar.addi c0_i32_148 v168
  v169.toNat
def k0_dev13 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_153 : BitVec 32 := 6#32
  let v178 : BitVec 32 := Scalar.addi v2 c6_i32_153
  let c8_i32_154 : BitVec 32 := 8#32
  let v179 : BitVec 32 := Scalar.remsi v178 c8_i32_154
  let c1_i32_158 : BitVec 32 := 1#32
  let v180 : BitVec 32 := Scalar.muli v179 c1_i32_158
  let v181 : BitVec 32 := Scalar.addi c0_i32_159 v180
  v181.toNat
def k0_dev14 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_164 : BitVec 32 := 7#32
  let v190 : BitVec 32 := Scalar.addi v2 c7_i32_164
  let c8_i32_165 : BitVec 32 := 8#32
  let v191 : BitVec 32 := Scalar.remsi v190 c8_i32_165
  let c1_i32_169 : BitVec 32 := 1#32
  let v192 : BitVec 32 := Scalar.muli v191 c1_i32_169
  let v193 : BitVec 32 := Scalar.addi c0_i32_170 v192
  v193.toNat
def k0_off6 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.subi v2 c0_i32
  let c8_i32_0 : BitVec 32 := 8#32
  let v4 : BitVec 32 := Scalar.addi v3 c8_i32_0
  let c8_i32_1 : BitVec 32 := 8#32
  let v5 : BitVec 32 := Scalar.remsi v4 c8_i32_1
  let c512_i32_185 : BitVec 32 := 512#32
  let v211 : BitVec 32 := Scalar.muli v5 c512_i32_185
  let c6144_i32 : BitVec 32 := 6144#32
  ![v211.toNat, 6144]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Schedule.lean ====
/-
  The protocol of the kernel, device by device.

  On the ring of eight devices each device `c` owns one barrier cell, seven departure cells and seven arrival cells.
  Before any remote copy starts, every device signals the seven others once and waits for seven signals; the signal
  hands over the landing slot the receiver of the signal is going to fill. Copy `d` of device `c` moves row block
  `c + d` of its own activations into landing slot `d` of device `c + d`, crediting departure cell `d` of `c` and arrival
  cell `d` of `c + d`. The contents are stated from the start: the departure hands the source slot back unchanged, the
  arrival hands over the landing slot holding the sender's rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds library, the protocol's, and the counters of the local
copies -/

/-- The protocol's rounds: duties are numbered. -/
abbrev UB : Type := URounds (GSem nD τ sig) ℕ
/-- All three together. -/
abbrev UU : Type := UR sig nD τ × (UB × Counters)

local notation "𝕄" => MT nD τ sig Unit (Elt F) ℕ UU ℕ

/-- The pipeline's copy. -/
abbrev EP : Emb (UR sig nD τ) (MT nD τ sig Unit (Elt F) ℕ UU ℕ) := embL
/-- The protocol's copy. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

omit [FloatOps F] in
instance ER_landsIn : (ER : Emb UB 𝕄).LandsIn (upEmb : UEmb _ 𝕄) := by unfold ER; infer_instance

variable (m : (ℓ : Loc nD τ sig) → Buf (Elt F) ℓ)

/-! ## The ring of devices -/

set_option backward.proofsInPublic true in
/-- The device `d` places after `c`. -/
def peer (c : Dev nD) (d : ℕ) : Dev nD := ⟨(c.val + d) % 8, Nat.mod_lt _ (by decide)⟩

/-- Its number. -/
theorem peer_val (c : Dev nD) (d : ℕ) : (peer c d).val = (c.val + d) % 8 := rfl

/-- Going all the way round comes back. -/
theorem peer_peer (c : Dev nD) (d e : ℕ) (h : (d + e) % 8 = 0) : peer (peer c d) e = c := by
  have hc : c.val < 8 := c.isLt
  apply Fin.ext
  rw [peer_val, peer_val]
  omega

/-! ## Buffers and cells -/

/-- The outgoing blocks, the landing slots, the weight slots, the accumulator, the local copy of the activations. -/
abbrev sbM : Memref sig .tc .vmem S8x512x512 .fp8e5m2 := Memref.whole cc0_scratch0
abbrev cmM : Memref sig .tc .vmem S8x512x512 .fp8e5m2 := Memref.whole cc0_scratch1
abbrev wbM : Memref sig .tc .vmem S4x512x2048 .f32 := Memref.whole cc0_scratch2
abbrev obM : Memref sig .tc .vmem S512x8192 .f32 := Memref.whole cc0_scratch3
abbrev xbM : Memref sig .tc .vmem S4096x512 .f32 := Memref.whole cc0_scratch4

/-- Slot `d` lies in an array of eight slots. -/
theorem inb_slot {d : ℕ} (hd : d < 8) : ∀ a : Fin 3, (![d, 0, 0] : Fin 3 → ℕ) a + S1x512x512.size a ≤ S8x512x512.size a := by
  intro a
  match a with
  | ⟨0, _⟩ => show d + 1 ≤ 8; omega
  | ⟨1, _⟩ => show 0 + 512 ≤ 512; decide
  | ⟨2, _⟩ => show 0 + 512 ≤ 512; decide

/-- Landing slot `d`, a 512×512 block. -/
abbrev cmSlot (d : ℕ) (hd : d < 8) : Memref sig .tc .vmem S512x512 .fp8e5m2 :=
  (cmM.slice (Rect.unit (s := S8x512x512) ![d, 0, 0] S1x512x512.size (inb_slot hd)) (fun _ => rfl)).squeeze S512x512 squeezes_S1x512x512_S512x512

/-- The outgoing block copy `d` of device `c` reads: block `c + d` of its activations (`d` from 1 to 7). -/
abbrev sbSrc (c : Dev nD) (r : Fin 7) : Memref sig .tc .vmem S512x512 .fp8e5m2 :=
  (sbM.slice (Rect.unit (s := S8x512x512) (k0_off5 c (BitVec.ofNat 32 (1 + r.val))) S1x512x512.size (k0_off5_inb c r)) (fun _ => rfl)).squeeze S512x512
    squeezes_S1x512x512_S512x512

/-- The runtime's barrier semaphore of collective 0. -/
abbrev barS : Sem sig := (SemArray.scalar (sig.barrier 0 rfl) : Sems sig S_).sem
/-- Departure semaphore `d` and arrival semaphore `d`. -/
abbrev sendS (d : ℕ) (hd : d < 8) : DmaSem sig := ⟨d + 2, by show d + 2 < 28; omega⟩
abbrev recvS (d : ℕ) (hd : d < 8) : DmaSem sig := ⟨d + 10, by show d + 10 < 28; omega⟩

/-- The barrier cell of a device, its departure cells and its arrival cells. -/
abbrev barCell (c : Dev nD) : GSem nD τ sig := ((c : Thread nD τ), .reg barS)
abbrev sendCell (c : Dev nD) (d : ℕ) (hd : d < 8 := by decide) : GSem nD τ sig := ((c : Thread nD τ), .dma (sendS d hd))
abbrev recvCell (c : Dev nD) (d : ℕ) (hd : d < 8 := by decide) : GSem nD τ sig := ((c : Thread nD τ), .dma (recvS d hd))

/-- The credit of one 512×512 block. -/
abbrev N : ℕ := (cmSlot 1 (by decide)).view.dmaCredit

/-- A block has a positive size. -/
theorem N_pos : 0 < N := View.dmaCredit_pos _ (by decide)

/-! ## Contents -/

/-- The activations device `c` starts with, rounded to the 8-bit format. -/
def xq (c : Dev nD) : S4096x512.Idx → Elt F .fp8e5m2 :=
  truncf .fp8e5m2 (m ((c : Thread nD τ).loc main_arg0) : S4096x512.Idx → Elt F .f32) bitsLt_fp8e5m2_f32

/-- Row `512 j + r`, column `k` of the activations, for a block `j`. -/
def blockIx (j : Fin 8) (r k : Fin 512) : S4096x512.Idx := fun
  | ⟨0, _⟩ => ⟨512 * j.val + r.val, by have := j.isLt; have := r.isLt; show 512 * j.val + r.val < 4096; omega⟩
  | ⟨1, _⟩ => k

/-- What the outgoing blocks hold once they are filled: block `j` is rows `512 j …` of `c`'s activations. -/
def sbF (c : Dev nD) : Buf (Elt F) ((c : Thread nD τ).loc cc0_scratch0) := fun i => xq m c (blockIx (i 0) (i 1) (i 2))

/-- What the landing slots hold once everything arrived: slot `d` is block `c` of the activations of the device `d`
    places before `c`. -/
def cmF (c : Dev nD) : Buf (Elt F) ((c : Thread nD τ).loc cc0_scratch1) :=
  fun i => xq m (peer c (8 - (i 0).val)) (blockIx c (i 1) (i 2))

/-! ## The schedule -/

/-- Landing slot `d` of device `c`, whole, with contents `f`. -/
abbrev cmPts (c : Dev nD) (d : ℕ) (hd : d < 8) (f : Buf (Elt F) ((c : Thread nD τ).loc cc0_scratch1)) : sProp 𝕄 :=
  (cmSlot d hd).view.loc (c : Thread nD τ) ↦[(cmSlot d hd).view.set]{fullShare} f

/-- The outgoing block of copy `1 + r` of device `c`, whole. -/
abbrev sbPts (c : Dev nD) (r : Fin 7) (f : Buf (Elt F) ((c : Thread nD τ).loc cc0_scratch0)) : sProp 𝕄 :=
  (sbSrc c r).view.loc (c : Thread nD τ) ↦[(sbSrc c r).view.set]{fullShare} f

/-- What the signal of device `c + d` hands `c`: landing slot `d` of device `c + d`. -/
def barPay (c : Dev nD) (d : ℕ) : sProp 𝕄 :=
  if hd : d < 8 then iprop(∃ f, cmPts (peer c d) d hd f) else iprop(emp)
/-- What an arrival hands over. -/
def recvPay (c : Dev nD) (d : ℕ) : sProp 𝕄 :=
  if hd : d < 8 then cmPts c d hd (cmF m c) else iprop(emp)
/-- What a departure hands back. -/
def sendPay (c : Dev nD) (d : ℕ) : sProp 𝕄 :=
  if hd : d - 1 < 7 then sbPts c ⟨d - 1, hd⟩ (sbF m c) else iprop(emp)

/-- The semaphores numbered as departure or arrival cells 1 to 7. -/
abbrev IsXfer (q : ℕ) : Prop := (3 ≤ q ∧ q ≤ 9) ∨ (11 ≤ q ∧ q ≤ 17)

/-- One round: a barrier cell has the duties 1 to 7 of one unit each, a departure or arrival cell the duty 0 of a
    block's credit. -/
def a2aRd : Rounds.Schedule (GSem nD τ sig) ℕ 𝕄 where
  duties g r :=
    if r = 0 ∧ g.1.2 = .tc then
      (match g.2 with
       | .reg _ => {1, 2, 3, 4, 5, 6, 7}
       | .dma q => if IsXfer q.val then {0} else ∅)
    else ∅
  unitless _ := False
  amount g _ _ := match g.2 with
    | .reg _ => 1
    | .dma _ => N
  payload g _ d := match g.2 with
    | .reg _ => barPay g.1.1 d
    | .dma q => if q.val < 10 then sendPay m g.1.1 (q.val - 2) else recvPay m g.1.1 (q.val - 10)
  amount_pos g _ _ _ := by
    cases g.2 with
    | reg _ => exact Nat.one_pos
    | dma _ => exact N_pos

omit [FloatOps F] in
instance cmPts_storable (c : Dev nD) (d : ℕ) (hd : d < 8) (f) : BI.Storable (upEmb : UEmb _ 𝕄) (cmPts (F := F) c d hd f) := by infer_instance
omit [FloatOps F] in
instance barPay_storable (c : Dev nD) (d : ℕ) : BI.Storable (upEmb : UEmb _ 𝕄) (barPay (F := F) c d) := by
  unfold barPay; split <;> infer_instance
instance recvPay_storable (c : Dev nD) (d : ℕ) : BI.Storable (upEmb : UEmb _ 𝕄) (recvPay (F := F) m c d) := by
  unfold recvPay; split <;> infer_instance
instance sendPay_storable (c : Dev nD) (d : ℕ) : BI.Storable (upEmb : UEmb _ 𝕄) (sendPay (F := F) m c d) := by
  unfold sendPay; split <;> infer_instance

/-- Every payload may be kept in a cell. -/
instance a2aRd_payload_storable (g : GSem nD τ sig) (r : ℕ) (d : ℕ) :
    BI.Storable (upEmb : UEmb _ 𝕄) ((a2aRd (F := F) m).payload g r d) := by
  obtain ⟨t, s⟩ := g
  cases s with
  | reg s => exact barPay_storable (F := F) t.1 d
  | dma q =>
    show BI.Storable upEmb (if q.val < 10 then sendPay m t.1 (q.val - 2) else recvPay m t.1 (q.val - 10))
    split <;> infer_instance

/-! ### Its tables -/

section Tables
variable (c : Dev nD) (d : ℕ)

/-- The barrier has seven duties, -/
theorem duties_bar : (a2aRd (F := F) m).duties (barCell c) 0 = {1, 2, 3, 4, 5, 6, 7} := by
  dsimp only [a2aRd]; exact if_pos ⟨rfl, rfl⟩

/-- a departure cell one, -/
theorem duties_send (h0 : 0 < d) (hd : d < 8) : (a2aRd (F := F) m).duties (sendCell c d hd) 0 = {0} := by
  dsimp only [a2aRd]; rw [if_pos ⟨rfl, rfl⟩]; exact if_pos (.inl (by show 3 ≤ d + 2 ∧ d + 2 ≤ 9; omega))

/-- an arrival cell one; -/
theorem duties_recv (h0 : 0 < d) (hd : d < 8) : (a2aRd (F := F) m).duties (recvCell c d hd) 0 = {0} := by
  dsimp only [a2aRd]; rw [if_pos ⟨rfl, rfl⟩]; exact if_pos (.inr (by show 11 ≤ d + 10 ∧ d + 10 ≤ 17; omega))

/-- all in the first round. -/
theorem duties_later (g : GSem nD τ sig) : ∀ r, 1 ≤ r → (a2aRd (F := F) m).duties g r = ∅ :=
  fun r hr => by dsimp only [a2aRd]; exact if_neg fun h => by omega

/-- A signal counts one. -/
theorem amount_bar (e : ℕ) : (a2aRd (F := F) m).amount (barCell c) 0 e = 1 := rfl
theorem amount_send (hd : d < 8) (e : ℕ) : (a2aRd (F := F) m).amount (sendCell c d hd) 0 e = N := rfl
theorem amount_recv (hd : d < 8) (e : ℕ) : (a2aRd (F := F) m).amount (recvCell c d hd) 0 e = N := rfl

/-- The barrier waits for seven, -/
theorem expect_bar : (a2aRd (F := F) m).expect (barCell c) 0 = 7 := by
  unfold Schedule.expect Schedule.amountOf
  rw [duties_bar, Finset.sum_congr rfl fun d _ => amount_bar m c d]
  decide

/-- a departure cell for one block, -/
theorem expect_send (h0 : 0 < d) (hd : d < 8) : (a2aRd (F := F) m).expect (sendCell c d hd) 0 = N := by
  unfold Schedule.expect Schedule.amountOf; rw [duties_send m c d h0 hd, Finset.sum_singleton, amount_send]

/-- an arrival cell for one block. -/
theorem expect_recv (h0 : 0 < d) (hd : d < 8) : (a2aRd (F := F) m).expect (recvCell c d hd) 0 = N := by
  unfold Schedule.expect Schedule.amountOf; rw [duties_recv m c d h0 hd, Finset.sum_singleton, amount_recv]

/-- A signal hands over the landing slot its receiver fills; -/
theorem payload_bar (hd : d < 8) : (a2aRd (F := F) m).payload (barCell c) 0 d = iprop(∃ f, cmPts (peer c d) d hd f) := by
  show barPay c d = _
  exact dif_pos hd

/-- an arrival hands over the filled slot; -/
theorem payload_recv (hd : d < 8) : (a2aRd (F := F) m).payload (recvCell c d hd) 0 0 = cmPts c d hd (cmF m c) := by
  show (if d + 10 < 10 then sendPay m c (d + 10 - 2) else recvPay m c (d + 10 - 10)) = _
  rw [if_neg (by omega), Nat.add_sub_cancel]
  exact dif_pos hd

/-- a departure hands back the block that left. -/
theorem payload_send (r : Fin 7) :
    (a2aRd (F := F) m).payload (sendCell c (r.val + 1) (by omega)) 0 0 = sbPts c r (sbF m c) := by
  show (if r.val + 1 + 2 < 10 then sendPay m c (r.val + 1 + 2 - 2) else recvPay m c (r.val + 1 + 2 - 10)) = _
  rw [if_pos (by omega), Nat.add_sub_cancel]
  exact dif_pos (show r.val + 1 - 1 < 7 by omega)

end Tables

/-! ## What each device owes at launch; the levels -/

/-- The arrival credits device `c` owes: one block to arrival cell `d` of device `c + d`, for `d` from 1 to 7. -/
def OR (c : Dev nD) : CellTallies nD τ sig Unit :=
  tallyAt (recvCell (peer c 7) 7) () N + tallyAt (recvCell (peer c 6) 6) () N + tallyAt (recvCell (peer c 5) 5) () N
    + tallyAt (recvCell (peer c 4) 4) () N + tallyAt (recvCell (peer c 3) 3) () N + tallyAt (recvCell (peer c 2) 2) () N
    + tallyAt (recvCell (peer c 1) 1) () N

/-- With them, one unit to every other device's barrier cell. -/
def O₀ (c : Dev nD) : CellTallies nD τ sig Unit :=
  OR c + tallyAt (barCell (peer c 7)) () 1 + tallyAt (barCell (peer c 6)) () 1 + tallyAt (barCell (peer c 5)) () 1
    + tallyAt (barCell (peer c 4)) () 1 + tallyAt (barCell (peer c 3)) () 1 + tallyAt (barCell (peer c 2)) () 1
    + tallyAt (barCell (peer c 1)) () 1

/-- Every cell of a device's core has one level. -/
def L (g : GSem nD τ sig) : Finset Unit := if g.1.2 = .tc then {()} else ∅
/-- Barrier cells at 1, arrival cells at 2, everything else at 0. -/
def lv (g : GSem nD τ sig) (_ : Unit) : ℕ := match g.2 with
  | .reg _ => 1
  | .dma q => if 11 ≤ q.val ∧ q.val ≤ 17 then 2 else 0

/-- No other core has a level. -/
theorem L_of_ne (g : GSem nD τ sig) (h : g.1.2 ≠ .tc) : L g = ∅ := if_neg h
theorem L_tc (c : Dev nD) (sm : SemLoc sig) : L ((c : Thread nD τ), sm) = {()} := if_pos rfl

/-- The level of a barrier cell. -/
theorem lv_bar (c : Dev nD) : lv (barCell c) () = 1 := rfl
theorem lv_recv (c : Dev nD) (d : ℕ) (h0 : 0 < d) (hd : d < 8) : lv (recvCell c d hd) () = 2 :=
  if_pos (show 11 ≤ d + 10 ∧ d + 10 ≤ 17 by omega)

/-- A single debt is owed at its own cell only. -/
theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

/-- A debt among two is one of the two. -/
theorem add_pos_or {A B : CellTallies nD τ sig Unit} {g : GSem nD τ sig} {u : Unit} (h : 0 < (A + B) g u) : 0 < A g u ∨ 0 < B g u := by
  rw [Pi.add_apply, Finsupp.add_apply] at h
  omega

/-- Where a device owes arrival credits: at arrival cells only. -/
theorem OR_pos {c : Dev nD} {g : GSem nD τ sig} {u : Unit} (h : 0 < OR c g u) :
    ∃ e d, ∃ (h0 : 0 < d) (hd : d < 8), g = recvCell e d hd := by
  unfold OR at h
  rcases add_pos_or h with h | h
  · rcases add_pos_or h with h | h
    · rcases add_pos_or h with h | h
      · rcases add_pos_or h with h | h
        · rcases add_pos_or h with h | h
          · rcases add_pos_or h with h | h
            · exact ⟨_, 7, by decide, by decide, tally_pos h⟩
            · exact ⟨_, 6, by decide, by decide, tally_pos h⟩
          · exact ⟨_, 5, by decide, by decide, tally_pos h⟩
        · exact ⟨_, 4, by decide, by decide, tally_pos h⟩
      · exact ⟨_, 3, by decide, by decide, tally_pos h⟩
    · exact ⟨_, 2, by decide, by decide, tally_pos h⟩
  · exact ⟨_, 1, by decide, by decide, tally_pos h⟩

/-- Where a device owes at launch: at arrival cells and barrier cells. -/
theorem O₀_pos {c : Dev nD} {g : GSem nD τ sig} {u : Unit} (h : 0 < O₀ c g u) :
    (∃ e d, ∃ (h0 : 0 < d) (hd : d < 8), g = recvCell e d hd) ∨ ∃ e, g = barCell e := by
  unfold O₀ at h
  rcases add_pos_or h with h | h
  · rcases add_pos_or h with h | h
    · rcases add_pos_or h with h | h
      · rcases add_pos_or h with h | h
        · rcases add_pos_or h with h | h
          · rcases add_pos_or h with h | h
            · rcases add_pos_or h with h | h
              · exact .inl (OR_pos h)
              · exact .inr ⟨_, tally_pos h⟩
            · exact .inr ⟨_, tally_pos h⟩
          · exact .inr ⟨_, tally_pos h⟩
        · exact .inr ⟨_, tally_pos h⟩
      · exact .inr ⟨_, tally_pos h⟩
    · exact .inr ⟨_, tally_pos h⟩
  · exact .inr ⟨_, tally_pos h⟩

omit [FloatOps F] in
/-- A device owing what it owes at launch may wait on a local cell. -/
theorem mayWait_local (c : Dev nD) (q : DmaSem sig) (hq : ¬ (11 ≤ q.val ∧ q.val ≤ 17)) :
    (levAts L lv : sProp 𝕄) ⊢ MayWait (c : Thread nD τ) (.dma q) () (O₀ c) :=
  MayOwe.of_cut (L := L) (lev := lv) 0 (fun p hp => by rw [Finset.mem_singleton.mp hp, L_tc]; exact Finset.mem_singleton_self _)
    (fun g u hg => by
      rcases O₀_pos hg with ⟨e, d, h0, hd, rfl⟩ | ⟨e, rfl⟩ <;> exact Finset.mem_singleton_self _)
    (fun p hp => by rw [Finset.mem_singleton.mp hp]; exact le_of_eq (if_neg hq))
    (fun g u hg => by
      rcases O₀_pos hg with ⟨e, d, h0, hd, rfl⟩ | ⟨e, rfl⟩
      · cases u; rw [lv_recv e d h0 hd]; decide
      · cases u; rw [lv_bar]; decide)

omit [FloatOps F] in
/-- A device owing its arrival credits only may wait on a local cell, -/
theorem mayWait_local' (c : Dev nD) (q : DmaSem sig) (hq : ¬ (11 ≤ q.val ∧ q.val ≤ 17)) :
    (levAts L lv : sProp 𝕄) ⊢ MayWait (c : Thread nD τ) (.dma q) () (OR c) :=
  MayOwe.of_cut (L := L) (lev := lv) 0 (fun p hp => by rw [Finset.mem_singleton.mp hp, L_tc]; exact Finset.mem_singleton_self _)
    (fun g u hg => by obtain ⟨e, d, h0, hd, rfl⟩ := OR_pos hg; exact Finset.mem_singleton_self _)
    (fun p hp => by rw [Finset.mem_singleton.mp hp]; exact le_of_eq (if_neg hq))
    (fun g u hg => by obtain ⟨e, d, h0, hd, rfl⟩ := OR_pos hg; cases u; rw [lv_recv e d h0 hd]; decide)

omit [FloatOps F] in
/-- and on its own barrier cell. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨e, d, h0, hd, rfl⟩ := OR_pos hg; exact Finset.mem_singleton_self _)
    (fun p hp => by rw [Finset.mem_singleton.mp hp]; exact le_refl _)
    (fun g u hg => by obtain ⟨e, d, h0, hd, rfl⟩ := OR_pos hg; cases u; rw [lv_recv e d h0 hd]; decide)

end Cert.AllToAll

end
-- ==== Proof.Contents.lean ====
/-
  The slots of the scratch arrays, and what the moves leave in them.

  Eight 512×512 slots make up the outgoing array and the landing array, four 512×2048 slots the weight array: each is split
  into its slots and put together again. A departing block is block `c + d` of the sender's rounded activations, so landing
  slot `d` of a device holds, once filled, that device's block of the activations of the device `d` places before it.
-/
module

public import proofs.«01_k».proof.Proof.Schedule

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sets of slots -/

/-- The elements of a squeezed slice of a whole buffer are its rectangle's. -/
theorem set_squeeze_slice_whole {sig : RefSig} {κ : Kind} (b : Ref sig κ) (r : Rect b.ty.shape) (h) (t : Shape) (hs) :
    (((Memref.whole b).slice r h).squeeze t hs).view.set = r.set :=
  (View.set_reshape _ _).trans (View.set_slice_whole b r)

/-- Slot `d` of an array of 512×512 slots is the elements with first coordinate `d`. -/
theorem mem_slot8 {off : Fin 3 → ℕ} {d : ℕ} (ho : off = ![d, 0, 0]) (inb : ∀ a, off a + S1x512x512.size a ≤ S8x512x512.size a)
    (i : S8x512x512.Idx) : i ∈ (Rect.unit (s := S8x512x512) off S1x512x512.size inb).set ↔ (i 0).val = d := by
  subst ho
  rw [Rect.mem_set_unit]
  constructor
  · intro h
    have h0 : d ≤ (i 0).val ∧ (i 0).val < d + 1 := h 0
    omega
  · intro h a
    match a with
    | ⟨0, _⟩ => show d ≤ (i 0).val ∧ (i 0).val < d + 1; omega
    | ⟨1, _⟩ => have : (i 1).val < 512 := (i 1).isLt; show 0 ≤ (i 1).val ∧ (i 1).val < 0 + 512; omega
    | ⟨2, _⟩ => have : (i 2).val < 512 := (i 2).isLt; show 0 ≤ (i 2).val ∧ (i 2).val < 0 + 512; omega

/-- Slot `d` of the weight array is the elements with first coordinate `d`. -/
theorem mem_slot4 {d : ℕ} (inb : ∀ a, (![d, 0, 0] : Fin 3 → ℕ) a + S1x512x2048.size a ≤ S4x512x2048.size a)
    (i : S4x512x2048.Idx) : i ∈ (Rect.unit (s := S4x512x2048) ![d, 0, 0] S1x512x2048.size inb).set ↔ (i 0).val = d := by
  rw [Rect.mem_set_unit]
  constructor
  · intro h
    have h0 : d ≤ (i 0).val ∧ (i 0).val < d + 1 := h 0
    omega
  · intro h a
    match a with
    | ⟨0, _⟩ => show d ≤ (i 0).val ∧ (i 0).val < d + 1; omega
    | ⟨1, _⟩ => have : (i 1).val < 512 := (i 1).isLt; show 0 ≤ (i 1).val ∧ (i 1).val < 0 + 512; omega
    | ⟨2, _⟩ => have : (i 2).val < 2048 := (i 2).isLt; show 0 ≤ (i 2).val ∧ (i 2).val < 0 + 2048; omega

/-- A buffer is the family of its slots: sets that classify the elements by a coordinate. -/
theorem slots_eq {n : ℕ} {ℓ : Loc nD τ sig} (K : Fin n → Finset (Idx ℓ)) (φ : Idx ℓ → ℕ) (σ : Fin n → ℕ) (hσ : Function.Injective σ)
    (hK : ∀ t i, i ∈ K t ↔ φ i = σ t) (hc : ∀ i, ∃ t, φ i = σ t) (q : PosShare TreeShare) (f : Buf (Elt F) ℓ) :
    (ℓ ↦[Finset.univ]{q} f : sProp 𝕄) = bigSep Finset.univ fun t => ℓ ↦[K t]{q} f := by
  rw [← pointsTo_biUnion Finset.univ K fun t _ t' _ h => Finset.disjoint_left.mpr fun i hi hi' =>
    h (hσ (((hK t i).mp hi).symm.trans ((hK t' i).mp hi')))]
  congr 1
  ext i
  simp only [Finset.mem_univ, Finset.mem_biUnion, true_and, true_iff]
  exact (hc i).imp fun t ht => (hK t i).mpr ht

/-- The slots, each with some contents, are the buffer with some contents. -/
theorem slots_join {n : ℕ} {ℓ : Loc nD τ sig} (K : Fin n → Finset (Idx ℓ)) (φ : Idx ℓ → ℕ) (σ : Fin n → ℕ) (hσ : Function.Injective σ)
    (hK : ∀ t i, i ∈ K t ↔ φ i = σ t) (hc : ∀ i, ∃ t, φ i = σ t) (fs : Fin n → Buf (Elt F) ℓ) (f₀ : Buf (Elt F) ℓ) :
    bigSep Finset.univ (fun t => ℓ ↦[K t]{fullShare} fs t) ⊢ (iprop(∃ g, ℓ ↦[Finset.univ]{fullShare} g) : sProp 𝕄) := by
  have hu : (Finset.univ : Finset (Fin n)).biUnion K = Finset.univ := by
    ext i
    simp only [Finset.mem_univ, Finset.mem_biUnion, true_and, iff_true]
    exact (hc i).imp fun t ht => (hK t i).mpr ht
  have hj := pointsTo_biUnion_join (Ix := Unit) (Val := Elt F) (Name := ℕ) (U := UU) (Lvl := ℕ) (q := fullShare) Finset.univ K fs f₀ fun t _ t' _ h => Finset.disjoint_left.mpr fun i hi hi' =>
    h (hσ (((hK t i).mp hi).symm.trans ((hK t' i).mp hi')))
  rw [hu] at hj
  refine hj.trans ?_
  iintro ⟨%g, -, H⟩
  iexists g
  iexact H

/-! ## The slots -/

/-- Device `c`'s own block among the outgoing ones. -/
abbrev sbOwn (c : Dev nD) : Memref sig .tc .vmem S512x512 .fp8e5m2 :=
  (sbM.slice (Rect.unit (s := S8x512x512) (k0_off4 c) S1x512x512.size (k0_off4_inb c)) (fun _ => rfl)).squeeze S512x512
    squeezes_S1x512x512_S512x512

/-- Weight slot `s`. -/
abbrev wbSlot (s : ℕ) (h : ∀ a : Fin 3, (![s, 0, 0] : Fin 3 → ℕ) a + S1x512x2048.size a ≤ S4x512x2048.size a) : Memref sig .tc .vmem S512x2048 .f32 :=
  (wbM.slice (Rect.unit (s := S4x512x2048) ![s, 0, 0] S1x512x2048.size h) (fun _ => rfl)).squeeze S512x2048 squeezes_S1x512x2048_S512x2048

/-- Ownership of what a view selects. -/
abbrev pts {s e} {sp} (c : Dev nD) (v : Memref sig .tc sp s e) (q : PosShare TreeShare) (f : Buf (Elt F) (v.view.loc (c : Thread nD τ))) : sProp 𝕄 :=
  v.view.loc (c : Thread nD τ) ↦[v.view.set]{q} f

/-- A weight slot lies inside its array. -/
theorem inb_wslot {d : ℕ} (hd : d < 4) : ∀ a : Fin 3, (![d, 0, 0] : Fin 3 → ℕ) a + S1x512x2048.size a ≤ S4x512x2048.size a := by
  intro a
  match a with
  | ⟨0, _⟩ => show d + 1 ≤ 4; omega
  | ⟨1, _⟩ => show 0 + 512 ≤ 512; decide
  | ⟨2, _⟩ => show 0 + 2048 ≤ 2048; decide

/-- An index lies in a landing slot exactly when its first coordinate names the slot; -/
theorem mem_cmSlot (d : ℕ) (hd : d < 8) (i : S8x512x512.Idx) : i ∈ (cmSlot d hd).view.set ↔ (i 0).val = d := by
  rw [show (cmSlot d hd).view.set = _ from set_squeeze_slice_whole cc0_scratch1 _ _ _ _]
  exact mem_slot8 rfl _ i

/-- in the block a device keeps for itself, -/
theorem mem_sbOwn (c : Dev nD) (i : S8x512x512.Idx) : i ∈ (sbOwn c).view.set ↔ (i 0).val = c.val := by
  rw [show (sbOwn c).view.set = _ from set_squeeze_slice_whole cc0_scratch0 _ _ _ _]
  exact mem_slot8 (k0_off4_eq c) _ i

/-- in a block that leaves, -/
theorem mem_sbSrc (c : Dev nD) (r : Fin 7) (i : S8x512x512.Idx) : i ∈ (sbSrc c r).view.set ↔ (i 0).val = (c.val + r.val + 1) % 8 := by
  rw [show (sbSrc c r).view.set = _ from set_squeeze_slice_whole cc0_scratch0 _ _ _ _]
  exact mem_slot8 (k0_off5_eq c r) _ i

/-- in a weight slot. -/
theorem mem_wbSlot (d : ℕ) (hd) (i : S4x512x2048.Idx) : i ∈ (wbSlot d hd).view.set ↔ (i 0).val = d := by
  rw [show (wbSlot d hd).view.set = _ from set_squeeze_slice_whole cc0_scratch2 _ _ _ _]
  exact mem_slot4 hd i

/-- The landing array is its eight slots. -/
theorem cm_slots (c : Dev nD) (f : Buf (Elt F) ((c : Thread nD τ).loc cc0_scratch1)) :
    ((c : Thread nD τ).loc cc0_scratch1 ↦[Finset.univ]{fullShare} f : sProp 𝕄)
      = bigSep Finset.univ fun t : Fin 8 => cmPts c t.val t.isLt f :=
  slots_eq (ℓ := (c : Thread nD τ).loc cc0_scratch1) (fun t : Fin 8 => (cmSlot t.val t.isLt).view.set) (fun i : S8x512x512.Idx => (i 0).val)
    (fun t => t.val) Fin.val_injective (fun t i => mem_cmSlot t.val t.isLt i) (fun i => ⟨i 0, rfl⟩) fullShare f

/-- The landing slots, each with contents of its own, are the landing array at contents put together from theirs. -/
theorem cm_join (c : Dev nD) (fs : Fin 8 → Buf (Elt F) ((c : Thread nD τ).loc cc0_scratch1)) :
    bigSep Finset.univ (fun t : Fin 8 => cmPts c t.val t.isLt (fs t))
      ⊢ (iprop(∃ g, (c : Thread nD τ).loc cc0_scratch1 ↦[Finset.univ]{fullShare} g) : sProp 𝕄) :=
  slots_join (ℓ := (c : Thread nD τ).loc cc0_scratch1) (fun t : Fin 8 => (cmSlot t.val t.isLt).view.set) (fun i : S8x512x512.Idx => (i 0).val)
    (fun t => t.val) Fin.val_injective (fun t i => mem_cmSlot t.val t.isLt i) (fun i => ⟨i 0, rfl⟩) fs (fs 0)

/-- The weight array is its four slots. -/
theorem wb_slots (c : Dev nD) (f : Buf (Elt F) ((c : Thread nD τ).loc cc0_scratch2)) :
    ((c : Thread nD τ).loc cc0_scratch2 ↦[Finset.univ]{fullShare} f : sProp 𝕄)
      = bigSep Finset.univ fun t : Fin 4 => pts c (wbSlot t.val (inb_wslot t.isLt)) fullShare f :=
  slots_eq (ℓ := (c : Thread nD τ).loc cc0_scratch2) (fun t : Fin 4 => (wbSlot t.val (inb_wslot t.isLt)).view.set) (fun i : S4x512x2048.Idx => (i 0).val)
    (fun t => t.val) Fin.val_injective (fun t i => mem_wbSlot t.val _ i) (fun i => ⟨i 0, rfl⟩) fullShare f

/-- The weight slots put together likewise. -/
theorem wb_join (c : Dev nD) (fs : Fin 4 → Buf (Elt F) ((c : Thread nD τ).loc cc0_scratch2)) :
    bigSep Finset.univ (fun t : Fin 4 => pts c (wbSlot t.val (inb_wslot t.isLt)) fullShare (fs t))
      ⊢ (iprop(∃ g, (c : Thread nD τ).loc cc0_scratch2 ↦[Finset.univ]{fullShare} g) : sProp 𝕄) :=
  slots_join (ℓ := (c : Thread nD τ).loc cc0_scratch2) (fun t : Fin 4 => (wbSlot t.val (inb_wslot t.isLt)).view.set) (fun i : S4x512x2048.Idx => (i 0).val)
    (fun t => t.val) Fin.val_injective (fun t i => mem_wbSlot t.val _ i) (fun i => ⟨i 0, rfl⟩) fs (fs 0)

/-- The slot of the outgoing array the `t`-th move reads: the own block for 0, then the copies' blocks. -/
def sbSet (c : Dev nD) : Fin 8 → Finset S8x512x512.Idx := Fin.cons (sbOwn c).view.set fun r => (sbSrc c r).view.set

/-- The outgoing blocks counted from the device itself. -/
theorem mem_sbSet (c : Dev nD) (t : Fin 8) (i : S8x512x512.Idx) : i ∈ sbSet c t ↔ (i 0).val = (c.val + t.val) % 8 := by
  have hc : c.val < 8 := c.isLt
  refine Fin.cases ?_ (fun r => ?_) t
  · show i ∈ (sbOwn c).view.set ↔ (i 0).val = (c.val + 0) % 8
    rw [mem_sbOwn]; omega
  · show i ∈ (sbSrc c r).view.set ↔ (i 0).val = (c.val + (r.val + 1)) % 8
    rw [mem_sbSrc, Nat.add_assoc]

/-- No block is counted twice, -/
theorem sb_inj (c : Dev nD) : Function.Injective fun t : Fin 8 => (c.val + t.val) % 8 := fun a b h => by
  have h' : (c.val + a.val) % 8 = (c.val + b.val) % 8 := h
  have := a.isLt; have := b.isLt
  apply Fin.ext; omega

/-- and none is left out. -/
theorem sb_cover (c : Dev nD) (i : S8x512x512.Idx) : ∃ t : Fin 8, (i 0).val = (c.val + t.val) % 8 := by
  have hc : c.val < 8 := c.isLt
  have hi : (i 0).val < 8 := (i 0).isLt
  exact ⟨⟨((i 0).val + 8 - c.val) % 8, Nat.mod_lt _ (by decide)⟩, by show (i 0).val = (c.val + ((i 0).val + 8 - c.val) % 8) % 8; omega⟩

/-- The outgoing array is device `c`'s own block and the seven others. -/
theorem sb_slots (c : Dev nD) (f : Buf (Elt F) ((c : Thread nD τ).loc cc0_scratch0)) :
    ((c : Thread nD τ).loc cc0_scratch0 ↦[Finset.univ]{fullShare} f : sProp 𝕄)
      = bigSep Finset.univ fun t : Fin 8 => ((c : Thread nD τ).loc cc0_scratch0 ↦[sbSet c t]{fullShare} f : sProp 𝕄) :=
  slots_eq (ℓ := (c : Thread nD τ).loc cc0_scratch0) (sbSet c) (fun i : S8x512x512.Idx => (i 0).val)
    (fun t => (c.val + t.val) % 8) (sb_inj c) (mem_sbSet c) (sb_cover c) fullShare f

/-- The outgoing blocks put together. -/
theorem sb_join (c : Dev nD) (fs : Fin 8 → Buf (Elt F) ((c : Thread nD τ).loc cc0_scratch0)) :
    bigSep Finset.univ (fun t : Fin 8 => ((c : Thread nD τ).loc cc0_scratch0 ↦[sbSet c t]{fullShare} fs t : sProp 𝕄))
      ⊢ (iprop(∃ g, (c : Thread nD τ).loc cc0_scratch0 ↦[Finset.univ]{fullShare} g) : sProp 𝕄) :=
  slots_join (ℓ := (c : Thread nD τ).loc cc0_scratch0) (sbSet c) (fun i : S8x512x512.Idx => (i 0).val)
    (fun t => (c.val + t.val) % 8) (sb_inj c) (mem_sbSet c) (sb_cover c) fs (fs 0)

/-! ## What a move leaves -/

/-- Moving a slot of the outgoing array, filled with the activations, into a landing slot: the landing slot then holds
    what the landing array holds in the end, if the slots' numbers fit. -/
theorem landed_eq (c e : Dev nD) {off : Fin 3 → ℕ} {inb} {d : ℕ} {hd : d < 8} (ho : off = ![e.val, 0, 0]) (he : peer e (8 - d) = c)
    (fd : Buf (Elt F) ((e : Thread nD τ).loc cc0_scratch1)) :
    cmPts e d hd ((cmSlot d hd).view.write (Elt F) fd
        (((sbM.slice (Rect.unit (s := S8x512x512) off S1x512x512.size inb) (fun _ => rfl)).squeeze S512x512
          squeezes_S1x512x512_S512x512).view.read (Elt F) (sbF m c)) Finset.univ)
      = (cmPts e d hd (cmF m e) : sProp 𝕄) := by
  subst ho
  refine pointsTo_congr fun i hi => ?_
  obtain ⟨y, -, rfl⟩ := Finset.mem_map.mp hi
  refine (View.write_emb_of_mem _ _ (Finset.mem_univ y)).trans ?_
  show sbF m c ((Rect.unit (s := S8x512x512) ![e.val, 0, 0] S1x512x512.size inb).emb (Shape.reshapeEquiv squeezes_S1x512x512_S512x512.numel_eq y))
    = cmF m e ((Rect.unit (s := S8x512x512) ![d, 0, 0] S1x512x512.size (inb_slot hd)).emb (Shape.reshapeEquiv squeezes_S1x512x512_S512x512.numel_eq y))
  generalize Shape.reshapeEquiv squeezes_S1x512x512_S512x512.numel_eq y = z
  have hz : (z 0).val < 1 := (z 0).isLt
  have he' : peer e (8 - ((Rect.unit (s := S8x512x512) ![d, 0, 0] S1x512x512.size (inb_slot hd)).emb z 0).val) = c := by
    rw [← he]; congr 2
    show d + 1 * (z 0).val = d
    omega
  unfold sbF cmF
  rw [he']
  congr 1
  have h0 : ((Rect.unit (s := S8x512x512) ![e.val, 0, 0] S1x512x512.size inb).emb z 0) = e := by
    apply Fin.ext
    show e.val + 1 * (z 0).val = e.val
    omega
  rw [h0]
  rfl

/-- So a landing slot holding its final contents is one holding, over whatever was in it, the block that was sent. -/
theorem arrival_eq (c e : Dev nD) {off : Fin 3 → ℕ} {inb} {d : ℕ} {hd : d < 8} (ho : off = ![e.val, 0, 0]) (he : peer e (8 - d) = c) :
    (a2aRd (F := F) m).payload (recvCell e d hd) 0 0
      = iprop(∃ fd, (cmSlot d hd).view.loc (e : Thread nD τ) ↦[(cmSlot d hd).view.set]{fullShare} (cmSlot d hd).view.write (Elt F) fd
        (((sbM.slice (Rect.unit (s := S8x512x512) off S1x512x512.size inb) (fun _ => rfl)).squeeze S512x512
          squeezes_S1x512x512_S512x512).view.read (Elt F) (sbF m c)) Finset.univ) := by
  rw [payload_recv]
  generalize hQ : (iprop(∃ fd, _) : sProp 𝕄) = Q
  have h1 : cmPts e d hd (cmF m e) ⊢ Q := by
    rw [← hQ]
    rw [← landed_eq m c e (inb := inb) ho he (cmF m e)]
    iintro H
    iexists (cmF m e)
    iexact H
  have h2 : Q ⊢ cmPts e d hd (cmF m e) := by
    rw [← hQ]
    iintro ⟨%fd, H⟩
    ihave H := (Entails.of_eq (landed_eq m c e (inb := inb) ho he fd)) $$ H
    iexact H
  exact BI.Entails.antisymm h1 h2

end Cert.AllToAll

end
-- ==== Proof.Spec.lean ====
/-
What the kernel computes: the result of one device as a function of the contents every device starts with, over any
float values.
-/
module

public import proofs.«01_k».proof.Proof.Contents

@[expose] public section

noncomputable section

namespace Cert.AllToAll

open Cert.KernelIdeal Cert.KernelIdeal.Gen

open Idealize.ShloMosaic
open Idealize.ShloMosaic.TcCoe

variable {F : FTy → Type} [FloatOps F]

variable (m : (ℓ : Loc nD τ sig) → Buf (Elt F) ℓ)

/-- Row `r`, column `k` of a 512×2048 tile. -/
def tileIx (r : Fin 512) (k : Fin 2048) : S512x2048.Idx := fun
  | ⟨0, _⟩ => r
  | ⟨1, _⟩ => k

/-- Row `512 j + r`, column `2048 n + k` of the weights. -/
def weightIx (j : Fin 8) (n : Fin 4) (r : Fin 512) (k : Fin 2048) : S4096x8192.Idx := fun
  | ⟨0, _⟩ => ⟨512 * j.val + r.val, by have := j.isLt; have := r.isLt; show 512 * j.val + r.val < 4096; omega⟩
  | ⟨1, _⟩ => ⟨2048 * n.val + k.val, by have := n.isLt; have := k.isLt; show 2048 * n.val + k.val < 8192; omega⟩

/-- The block of activations device `c` receives from the device `d` places before it. -/
def blkA (c : Dev nD) (d : ℕ) : FVec F S512x512 .fp8e5m2 := fun i => xq m (peer c (8 - d)) (blockIx c (i 0) (i 1))

/-- The tile of device `c`'s weights which meets that block, in column group `n`. -/
def wTile (c : Dev nD) (d : ℕ) (n : Fin 4) : FVec F S512x2048 .f32 :=
  fun i => m ((c : Thread nD τ).loc main_arg1) (weightIx (peer c (8 - d)) n (i 0) (i 1))

/-- The product of the block and the tile, the tile rounded to the 8-bit format first. -/
def contrib (c : Dev nD) (d : ℕ) (n : Fin 4) : FVec F S512x2048 .f32 :=
  matmul dot_S512x512_S512x2048_S512x2048_1_0_0_1_n_n none (blkA m c d) (truncf .fp8e5m2 (wTile m c d n) bitsLt_fp8e5m2_f32)
    (constant S512x2048 .f32 0x00000000#32)

/-- The sum of the first `d + 1` products. -/
def accN (c : Dev nD) (n : Fin 4) : ℕ → FVec F S512x2048 .f32
  | 0 => contrib m c 0 n
  | d + 1 => addf (accN c n d) (contrib m c (d + 1) n)

/-- The scale and the activation function: `y = s * a`, then `y / (1 + exp (-(min 60 (max (-60) y))))`. -/
def act (s : F .f32) (a : FVec F S512x2048 .f32) : FVec F S512x2048 .f32 :=
  let y := mulf a (broadcast S512x2048 s)
  divf y (addf (broadcast S512x2048 (Scalar.ofBits .f32 0x3F800000#32))
    (exp (subf (broadcast S512x2048 (Scalar.ofBits .f32 0x00000000#32))
      (minimumf (broadcast S512x2048 (Scalar.ofBits .f32 0x42700000#32))
        (maximumf (broadcast S512x2048 (Scalar.ofBits .f32 0xC2700000#32)) y)))))

/-- The column group of a column, and its place there. -/
def grp (k : Fin 8192) : Fin 4 := ⟨k.val / 2048, by have := k.isLt; omega⟩
def plc (k : Fin 8192) : Fin 2048 := ⟨k.val % 2048, Nat.mod_lt _ (by decide)⟩

/-- The result of device `c`, at scale `s`. -/
def outF (c : Dev nD) (s : F .f32) : Buf (Elt F) ((c : Thread nD τ).loc main_v1) :=
  fun i => act s (accN m c (grp (i 1)) 7) (tileIx (i 0) (plc (i 1)))

end Cert.AllToAll

end
-- ==== Proof.Held.lean ====
/-
What one device holds before and after its run of the kernel body, and the statement of that run.
-/
module

public import proofs.«01_k».proof.Proof.Spec

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-! ## The devices a body names -/

/-- The seven devices the kernel addresses are the seven peers, in order. -/
theorem hdev1 (c : Dev nD) : (⟨k0_dev1 c, k0_dev1_lt c⟩ : Dev nD) = peer c 1 := Fin.ext (k0_dev1_eq c)
theorem hdev2 (c : Dev nD) : (⟨k0_dev2 c, k0_dev2_lt c⟩ : Dev nD) = peer c 2 := Fin.ext (k0_dev2_eq c)
theorem hdev3 (c : Dev nD) : (⟨k0_dev3 c, k0_dev3_lt c⟩ : Dev nD) = peer c 3 := Fin.ext (k0_dev3_eq c)
theorem hdev4 (c : Dev nD) : (⟨k0_dev4 c, k0_dev4_lt c⟩ : Dev nD) = peer c 4 := Fin.ext (k0_dev4_eq c)
theorem hdev5 (c : Dev nD) : (⟨k0_dev5 c, k0_dev5_lt c⟩ : Dev nD) = peer c 5 := Fin.ext (k0_dev5_eq c)
theorem hdev6 (c : Dev nD) : (⟨k0_dev6 c, k0_dev6_lt c⟩ : Dev nD) = peer c 6 := Fin.ext (k0_dev6_eq c)
theorem hdev7 (c : Dev nD) : (⟨k0_dev7 c, k0_dev7_lt c⟩ : Dev nD) = peer c 7 := Fin.ext (k0_dev7_eq c)
theorem hdev8 (c : Dev nD) : (⟨k0_dev8 c, k0_dev8_lt c⟩ : Dev nD) = peer c 1 := Fin.ext (k0_dev8_eq c)
theorem hdev9 (c : Dev nD) : (⟨k0_dev9 c, k0_dev9_lt c⟩ : Dev nD) = peer c 2 := Fin.ext (k0_dev9_eq c)
theorem hdev10 (c : Dev nD) : (⟨k0_dev10 c, k0_dev10_lt c⟩ : Dev nD) = peer c 3 := Fin.ext (k0_dev10_eq c)
theorem hdev11 (c : Dev nD) : (⟨k0_dev11 c, k0_dev11_lt c⟩ : Dev nD) = peer c 4 := Fin.ext (k0_dev11_eq c)
theorem hdev12 (c : Dev nD) : (⟨k0_dev12 c, k0_dev12_lt c⟩ : Dev nD) = peer c 5 := Fin.ext (k0_dev12_eq c)
theorem hdev13 (c : Dev nD) : (⟨k0_dev13 c, k0_dev13_lt c⟩ : Dev nD) = peer c 6 := Fin.ext (k0_dev13_eq c)
theorem hdev14 (c : Dev nD) : (⟨k0_dev14 c, k0_dev14_lt c⟩ : Dev nD) = peer c 7 := Fin.ext (k0_dev14_eq c)

/-! ## What is held -/

/-- Cell `g` obeys the schedule. -/
abbrev inv (g : GSem nD τ sig) : sProp 𝕄 := iprop(cellInv ER (a2aRd m) (κ g) g)

/-- Device `c`'s part in the meeting at the barrier: its own cell and its credits there, and for every other device the
    duty to signal it with the landing slot that device fills. -/
def meet (c : Dev nD) (f1 : Buf (Elt F) ((c : Thread nD τ).loc cc0_scratch1)) : sProp 𝕄 :=
  iprop(
    (inv m κ (barCell c) ∗ inv m κ (barCell (peer c 1)) ∗ inv m κ (barCell (peer c 2)) ∗ inv m κ (barCell (peer c 3)) ∗ inv m κ (barCell (peer c 4)) ∗ inv m κ (barCell (peer c 5)) ∗ inv m κ (barCell (peer c 6)) ∗ inv m κ (barCell (peer c 7)))
    ∗ (reached ER (barCell (peer c 1)) 0 ∗ reached ER (barCell (peer c 2)) 0 ∗ reached ER (barCell (peer c 3)) 0 ∗ reached ER (barCell (peer c 4)) 0 ∗ reached ER (barCell (peer c 5)) 0 ∗ reached ER (barCell (peer c 6)) 0 ∗ reached ER (barCell (peer c 7)) 0)
    ∗ levAts L lv
    ∗ (dutyTok ER (barCell (peer c 1)) 0 7 ∗ dutyTok ER (barCell (peer c 2)) 0 6 ∗ dutyTok ER (barCell (peer c 3)) 0 5 ∗ dutyTok ER (barCell (peer c 4)) 0 4 ∗ dutyTok ER (barCell (peer c 5)) 0 3 ∗ dutyTok ER (barCell (peer c 6)) 0 2 ∗ dutyTok ER (barCell (peer c 7)) 0 1)
    ∗ atPos ER (barCell c) 0 ∅ 0 ∗ cred (tallyAt (barCell c) () 7)
    ∗ (cmPts c 0 (by decide) f1 ∗ (∃ f, cmPts (peer (peer c 1) 7) 7 (by decide) f) ∗ (∃ f, cmPts (peer (peer c 2) 6) 6 (by decide) f) ∗ (∃ f, cmPts (peer (peer c 3) 5) 5 (by decide) f) ∗ (∃ f, cmPts (peer (peer c 4) 4) 4 (by decide) f) ∗ (∃ f, cmPts (peer (peer c 5) 3) 3 (by decide) f) ∗ (∃ f, cmPts (peer (peer c 6) 2) 2 (by decide) f) ∗ (∃ f, cmPts (peer (peer c 7) 1) 1 (by decide) f)))

/-- Device `c`'s part in the exchange: departure cell `d` and arrival cell `d` are its own, the arrival cell `d` of the device
    `d` places after it is where it delivers. -/
def exchange (c : Dev nD) : sProp 𝕄 :=
  iprop(
    (inv m κ (sendCell c 1) ∗ inv m κ (sendCell c 2) ∗ inv m κ (sendCell c 3) ∗ inv m κ (sendCell c 4) ∗ inv m κ (sendCell c 5) ∗ inv m κ (sendCell c 6) ∗ inv m κ (sendCell c 7))
    ∗ (inv m κ (recvCell c 1) ∗ inv m κ (recvCell c 2) ∗ inv m κ (recvCell c 3) ∗ inv m κ (recvCell c 4) ∗ inv m κ (recvCell c 5) ∗ inv m κ (recvCell c 6) ∗ inv m κ (recvCell c 7))
    ∗ (inv m κ (recvCell (peer c 1) 1) ∗ inv m κ (recvCell (peer c 2) 2) ∗ inv m κ (recvCell (peer c 3) 3) ∗ inv m κ (recvCell (peer c 4) 4) ∗ inv m κ (recvCell (peer c 5) 5) ∗ inv m κ (recvCell (peer c 6) 6) ∗ inv m κ (recvCell (peer c 7) 7))
    ∗ (reached ER (sendCell c 1) 0 ∗ reached ER (sendCell c 2) 0 ∗ reached ER (sendCell c 3) 0 ∗ reached ER (sendCell c 4) 0 ∗ reached ER (sendCell c 5) 0 ∗ reached ER (sendCell c 6) 0 ∗ reached ER (sendCell c 7) 0)
    ∗ (reached ER (recvCell (peer c 1) 1) 0 ∗ reached ER (recvCell (peer c 2) 2) 0 ∗ reached ER (recvCell (peer c 3) 3) 0 ∗ reached ER (recvCell (peer c 4) 4) 0 ∗ reached ER (recvCell (peer c 5) 5) 0 ∗ reached ER (recvCell (peer c 6) 6) 0 ∗ reached ER (recvCell (peer c 7) 7) 0)
    ∗ (dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0)
    ∗ (dutyTok ER (recvCell (peer c 1) 1) 0 0 ∗ dutyTok ER (recvCell (peer c 2) 2) 0 0 ∗ dutyTok ER (recvCell (peer c 3) 3) 0 0 ∗ dutyTok ER (recvCell (peer c 4) 4) 0 0 ∗ dutyTok ER (recvCell (peer c 5) 5) 0 0 ∗ dutyTok ER (recvCell (peer c 6) 6) 0 0 ∗ dutyTok ER (recvCell (peer c 7) 7) 0 0)
    ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0)
    ∗ (atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0)
    ∗ (cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N)))

/-- The two staged scalars, the accumulator, the result, and the semaphores of the copies into the landing slot of the
    device's own block and out to the result. -/
def finish (c : Dev nD) (g0 : Buf (Elt F) ((c : Thread nD τ).loc cc0_stg0_0)) (g1 : Buf (Elt F) ((c : Thread nD τ).loc cc0_stg1_0))
    (f3 : Buf (Elt F) ((c : Thread nD τ).loc cc0_scratch3)) (fo : Buf (Elt F) ((c : Thread nD τ).loc main_v1)) : sProp 𝕄 :=
  iprop(pts c (Memref.whole cc0_stg0_0) fullShare g0 ∗ pts c (Memref.whole cc0_stg1_0) fullShare g1
    ∗ pts c obM fullShare f3 ∗ pts c (Memref.whole main_v1) fullShare fo
    ∗ (semVal ((c : Thread nD τ), .dma 18) 0 ∗ semVal ((c : Thread nD τ), .dma 23) 0 ∗ semVal ((c : Thread nD τ), .dma 24) 0
      ∗ semVal ((c : Thread nD τ), .dma 25) 0 ∗ semVal ((c : Thread nD τ), .dma 26) 0))

/-- The weights in four parts, one per weight slot. -/
def weights (c : Dev nD) : sProp 𝕄 :=
  iprop(pts c (Memref.whole main_arg1) (Transfers.shareTok fullShare 28 19) (m ((c : Thread nD τ).loc main_arg1))
    ∗ pts c (Memref.whole main_arg1) (Transfers.shareTok fullShare 28 20) (m ((c : Thread nD τ).loc main_arg1))
    ∗ pts c (Memref.whole main_arg1) (Transfers.shareTok fullShare 28 21) (m ((c : Thread nD τ).loc main_arg1))
    ∗ pts c (Memref.whole main_arg1) (Transfers.shareTok fullShare 28 22) (m ((c : Thread nD τ).loc main_arg1)))

/-- What device `c` holds when it begins, all of it. -/
def held (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fo : Buf (Elt F) ((c : Thread nD τ).loc main_v1))
    (g0 : Buf (Elt F) ((c : Thread nD τ).loc cc0_stg0_0)) (g1 : Buf (Elt F) ((c : Thread nD τ).loc cc0_stg1_0)) : sProp 𝕄 :=
  iprop(meet m κ c f1 ∗ exchange m κ c ∗ finish c g0 g1 f3 fo ∗ owes (c : Thread nD τ) (O₀ c) W
    ∗ pts c (Memref.whole main_arg0) fullShare (m ((c : Thread nD τ).loc main_arg0)) ∗ weights m c
    ∗ pts c sbM fullShare f0
    ∗ (pts c (wbSlot 0 inb_S4x512x2048_S1x512x2048_0_0_0) fullShare f2 ∗ pts c (wbSlot 1 inb_S4x512x2048_S1x512x2048_1_0_0) fullShare f2 ∗ pts c (wbSlot 2 inb_S4x512x2048_S1x512x2048_2_0_0) fullShare f2 ∗ pts c (wbSlot 3 inb_S4x512x2048_S1x512x2048_3_0_0) fullShare f2)
    ∗ pts c xbM fullShare f4
    ∗ (semVal ((c : Thread nD τ), .dma 27) 0 ∗ semVal ((c : Thread nD τ), .dma 19) 0 ∗ semVal ((c : Thread nD τ), .dma 20) 0 ∗ semVal ((c : Thread nD τ), .dma 21) 0 ∗ semVal ((c : Thread nD τ), .dma 22) 0))

/-- The only index of a one-element array. -/
def ix1 : S1.Idx := fun
  | ⟨0, _⟩ => (0 : Fin 1)

/-- The scale: the product of the two staged scalars. -/
def scale (c : Dev nD) (g0 : Buf (Elt F) ((c : Thread nD τ).loc cc0_stg0_0)) (g1 : Buf (Elt F) ((c : Thread nD τ).loc cc0_stg1_0)) : F .f32 :=
  Scalar.mulf ((g0 : S1.Idx → Elt F .f32) ix1) ((g1 : S1.Idx → Elt F .f32) ix1)

/-- What device `c` holds when it has finished: the result it is to compute, its arguments as they were, every cell past its
    only round, every private semaphore at zero, nothing owed. -/
def left (c : Dev nD) (g0 : Buf (Elt F) ((c : Thread nD τ).loc cc0_stg0_0)) (g1 : Buf (Elt F) ((c : Thread nD τ).loc cc0_stg1_0)) : sProp 𝕄 :=
  iprop((pts c (Memref.whole cc0_stg0_0) fullShare g0 ∗ pts c (Memref.whole cc0_stg1_0) fullShare g1
      ∗ pts c (Memref.whole main_v1) fullShare (outF m c (scale c g0 g1))
      ∗ pts c (Memref.whole main_arg0) fullShare (m ((c : Thread nD τ).loc main_arg0)) ∗ weights m c)
    ∗ (atPos ER (barCell c) 1 ∅ 0
      ∗ (atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0 ∗ atPos ER (sendCell c 7) 1 ∅ 0)
      ∗ (atPos ER (recvCell c 1) 1 ∅ 0 ∗ atPos ER (recvCell c 2) 1 ∅ 0 ∗ atPos ER (recvCell c 3) 1 ∅ 0 ∗ atPos ER (recvCell c 4) 1 ∅ 0 ∗ atPos ER (recvCell c 5) 1 ∅ 0 ∗ atPos ER (recvCell c 6) 1 ∅ 0 ∗ atPos ER (recvCell c 7) 1 ∅ 0))
    ∗ (semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0)
    ∗ (∃ W', owes (c : Thread nD τ) 0 W')
    ∗ (pts c (sbOwn c) fullShare (sbF m c) ∗ sbPts c 0 (sbF m c) ∗ sbPts c 1 (sbF m c) ∗ sbPts c 2 (sbF m c) ∗ sbPts c 3 (sbF m c) ∗ sbPts c 4 (sbF m c) ∗ sbPts c 5 (sbF m c) ∗ sbPts c 6 (sbF m c))
    ∗ (cmPts c 0 (by decide) (cmF m c) ∗ cmPts c 1 (by decide) (cmF m c) ∗ cmPts c 2 (by decide) (cmF m c) ∗ cmPts c 3 (by decide) (cmF m c) ∗ cmPts c 4 (by decide) (cmF m c) ∗ cmPts c 5 (by decide) (cmF m c) ∗ cmPts c 6 (by decide) (cmF m c) ∗ cmPts c 7 (by decide) (cmF m c))
    ∗ ((∃ f, pts c (wbSlot 0 inb_S4x512x2048_S1x512x2048_0_0_0) fullShare f) ∗ (∃ f, pts c (wbSlot 1 inb_S4x512x2048_S1x512x2048_1_0_0) fullShare f) ∗ (∃ f, pts c (wbSlot 2 inb_S4x512x2048_S1x512x2048_2_0_0) fullShare f) ∗ (∃ f, pts c (wbSlot 3 inb_S4x512x2048_S1x512x2048_3_0_0) fullShare f))
    ∗ (∃ f, pts c obM fullShare f) ∗ (∃ f, pts c xbM fullShare f))

/-- The body, at the buffers and semaphores the program gives it. -/
abbrev prog : Prog (TpuEff nD τ sig (Elt F) Λ₀ .tc) PUnit :=
  cc0_body (Memref.whole main_arg0) (Memref.isWhole_whole _) (Memref.whole main_arg1) (Memref.isWhole_whole _) (Memref.whole cc0_stg0_0)
    (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    cc0_scratch5 cc0_scratch6 cc0_scratch7 cc0_scratch8 cc0_scratch9 cc0_scratch10

/-- The body run on device `c` from what is held ends with what is left. -/
def Runs (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fo : Buf (Elt F) ((c : Thread nD τ).loc main_v1))
    (g0 : Buf (Elt F) ((c : Thread nD τ).loc cc0_stg0_0)) (g1 : Buf (Elt F) ((c : Thread nD τ).loc cc0_stg1_0)) : Prop :=
  ∀ K : PUnit → sProp 𝕄, iprop(held m κ c W f0 f1 f2 f3 f4 fo g0 g1 ∗ (left m c g0 g1 -∗ K ⟨⟩))
    ⊢ wp frame (wpE (defs₀ (F := F)) Variants.none (c : Thread nD τ) none) Set.univ prog K

end Cert.AllToAll

end
-- ==== Proof.Ghost.lean ====
/-
  The ghost state at the launch.

  Every device has fifteen cells: its barrier cell, seven departure cells, seven arrival cells. Their counters at zero and
  the launch element fund every cell's invariant, position and duty tokens at once; each token then goes to the device that
  pays the duty: the signal duties and the arrival duties around the ring, the departure duties to their own device.
-/
module

public import proofs.«01_k».proof.Proof.Held

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-! ## Cells and tokens -/

/-- The semaphores a device's cells are at: the barrier, the departures, the arrivals. -/
def csem : Unit ⊕ (Fin 7 ⊕ Fin 7) → SemLoc sig
  | .inl _ => .reg barS
  | .inr (.inl r) => .dma (sendS (r.val + 1) (by omega))
  | .inr (.inr r) => .dma (recvS (r.val + 1) (by omega))

/-- Different cells stand on different semaphores. -/
theorem csem_injective : Function.Injective csem := by
  rintro (_ | r | r) (_ | r' | r') h
  · rfl
  · cases h
  · cases h
  · cases h
  · have h1 : r.val + 1 + 2 = r'.val + 1 + 2 := congrArg Fin.val (SemLoc.dma.inj h)
    rw [show r = r' from Fin.ext (by omega)]
  · have h1 : r.val + 1 + 2 = r'.val + 1 + 10 := congrArg Fin.val (SemLoc.dma.inj h)
    omega
  · cases h
  · have h1 : r.val + 1 + 10 = r'.val + 1 + 2 := congrArg Fin.val (SemLoc.dma.inj h)
    omega
  · have h1 : r.val + 1 + 10 = r'.val + 1 + 10 := congrArg Fin.val (SemLoc.dma.inj h)
    rw [show r = r' from Fin.ext (by omega)]

/-- Device `p.1`'s cell `p.2`. -/
def kcell (p : Dev nD × (Unit ⊕ (Fin 7 ⊕ Fin 7))) : GSem nD τ sig := ((p.1 : Thread nD τ), csem p.2)

/-- Different devices or numbers name different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells of all devices. -/
def allCells : Finset (GSem nD τ sig) := Finset.univ.map ⟨kcell, kcell_injective⟩

/-- A duty of device `p.1`'s cells: signal `r + 1` at its barrier cell, the departure and the arrival of copy `r + 1`. -/
def tokOf (p : Dev nD × (Fin 7 ⊕ (Fin 7 ⊕ Fin 7))) : GSem nD τ sig × ℕ × ℕ :=
  match p.2 with
  | .inl r => (barCell p.1, 0, r.val + 1)
  | .inr (.inl r) => (sendCell p.1 (r.val + 1) (by omega), 0, 0)
  | .inr (.inr r) => (recvCell p.1 (r.val + 1) (by omega), 0, 0)

/-- Different duties have different tokens. -/
theorem tokOf_injective : Function.Injective tokOf := by
  rintro ⟨c, k⟩ ⟨c', k'⟩ h
  have h1 : c = c' := by
    have := congrArg (fun x : GSem nD τ sig × ℕ × ℕ => x.1.1.1) h
    rcases k with _ | _ | _ <;> rcases k' with _ | _ | _ <;> exact this
  subst h1
  have h2 : (tokOf (c, k)).1.2 = (tokOf (c, k')).1.2 := congrArg (fun x : GSem nD τ sig × ℕ × ℕ => x.1.2) h
  have h3 : (tokOf (c, k)).2.2 = (tokOf (c, k')).2.2 := congrArg (fun x : GSem nD τ sig × ℕ × ℕ => x.2.2) h
  rcases k with r | r | r <;> rcases k' with r' | r' | r'
  · have h4 : r.val + 1 = r'.val + 1 := h3
    rw [show r = r' from Fin.ext (by omega)]
  · cases h2
  · cases h2
  · cases h2
  · have h4 : r.val + 1 + 2 = r'.val + 1 + 2 := congrArg Fin.val (SemLoc.dma.inj h2)
    rw [show r = r' from Fin.ext (by omega)]
  · have h4 : r.val + 1 + 2 = r'.val + 1 + 10 := congrArg Fin.val (SemLoc.dma.inj h2)
    omega
  · cases h2
  · have h4 : r.val + 1 + 10 = r'.val + 1 + 2 := congrArg Fin.val (SemLoc.dma.inj h2)
    omega
  · have h4 : r.val + 1 + 10 = r'.val + 1 + 10 := congrArg Fin.val (SemLoc.dma.inj h2)
    rw [show r = r' from Fin.ext (by omega)]

/-- All duties of all cells. -/
def allToks : Finset (GSem nD τ sig × ℕ × ℕ) := Finset.univ.map ⟨tokOf, tokOf_injective⟩

omit [FloatOps F] in
/-- A family over all cells, device by device and kind by kind. -/
theorem cells_eq (Φ : GSem nD τ sig → sProp 𝕄) :
    bigSep allCells Φ = bigSep Finset.univ fun c : Dev nD => iprop(Φ (barCell c)
      ∗ (bigSep Finset.univ fun r : Fin 7 => Φ (sendCell c (r.val + 1) (by omega))) ∗ bigSep Finset.univ fun r : Fin 7 => Φ (recvCell c (r.val + 1) (by omega))) := by
  unfold allCells
  rw [bigSep_map, bigSep_univ_prod]
  refine bigSep_congr fun c _ => ?_
  rw [bigSep_univ_sum, bigSep_univ_sum, bigSep_univ_eq_bigSepL [()] (by decide) (by decide), bigSepL_singleton]
  rfl

omit [FloatOps F] in
/-- A family over all duties, so too. -/
theorem toks_eq (Φ : GSem nD τ sig × ℕ × ℕ → sProp 𝕄) :
    bigSep allToks Φ = bigSep Finset.univ fun c : Dev nD => iprop((bigSep Finset.univ fun r : Fin 7 => Φ (barCell c, 0, r.val + 1))
      ∗ (bigSep Finset.univ fun r : Fin 7 => Φ (sendCell c (r.val + 1) (by omega), 0, 0)) ∗ bigSep Finset.univ fun r : Fin 7 => Φ (recvCell c (r.val + 1) (by omega), 0, 0)) := by
  unfold allToks
  rw [bigSep_map, bigSep_univ_prod]
  refine bigSep_congr fun c _ => ?_
  rw [bigSep_univ_sum, bigSep_univ_sum]
  rfl

/-! ## Dealing the tokens around -/

/-- Moving on the ring by a number of places depending on the second part. -/
def around (k : Fin 7 → ℕ) (hk : ∀ r, k r ≤ 8) : Dev nD × Fin 7 ≃ Dev nD × Fin 7 where
  toFun p := (peer p.1 (k p.2), p.2)
  invFun p := (peer p.1 (8 - k p.2), p.2)
  left_inv p := by
    obtain ⟨c, r⟩ := p
    show (peer (peer c (k r)) (8 - k r), r) = (c, r)
    rw [peer_peer c (k r) (8 - k r) (by have := hk r; omega)]
  right_inv p := by
    obtain ⟨c, r⟩ := p
    show (peer (peer c (8 - k r)) (k r), r) = (c, r)
    rw [peer_peer c (8 - k r) (k r) (by have := hk r; omega)]

omit [FloatOps F] in
/-- A family over devices and places, each place's member moved around the ring. -/
theorem deal (k : Fin 7 → ℕ) (hk : ∀ r, k r ≤ 8) (Φ : Dev nD → Fin 7 → sProp 𝕄) :
    (bigSep Finset.univ fun c : Dev nD => bigSep Finset.univ fun r : Fin 7 => Φ c r)
      = bigSep Finset.univ fun c : Dev nD => bigSep Finset.univ fun r : Fin 7 => Φ (peer c (k r)) r := by
  rw [← bigSep_univ_prod (fun p : Dev nD × Fin 7 => Φ p.1 p.2), bigSep_univ_equiv (around k hk), bigSep_univ_prod]
  rfl

/-- What device `c` keeps of the positions and the tokens: its own positions, and the tokens of the duties it pays. -/
def linear (c : Dev nD) : sProp 𝕄 :=
  iprop((atPos ER (barCell c) 0 ∅ 0 ∗ (bigSep Finset.univ fun r : Fin 7 => atPos ER (sendCell c (r.val + 1) (by omega)) 0 ∅ 0)
      ∗ bigSep Finset.univ fun r : Fin 7 => atPos ER (recvCell c (r.val + 1) (by omega)) 0 ∅ 0)
    ∗ (bigSep Finset.univ fun r : Fin 7 => dutyTok ER (barCell (peer c (7 - r.val))) 0 (r.val + 1))
    ∗ (bigSep Finset.univ fun r : Fin 7 => dutyTok ER (sendCell c (r.val + 1) (by omega)) 0 0)
    ∗ bigSep Finset.univ fun r : Fin 7 => dutyTok ER (recvCell (peer c (r.val + 1)) (r.val + 1) (by omega)) 0 0)

omit [FloatOps F] in
/-- All positions and tokens are every device's share of them. -/
theorem linear_eq :
    (iprop(bigSep allCells (fun g => atPos ER g 0 ∅ 0) ∗ bigSep allToks fun x => dutyTok ER x.1 x.2.1 x.2.2) : sProp 𝕄)
      = bigSep Finset.univ fun c : Dev nD => linear c := by
  unfold linear
  rw [cells_eq, toks_eq, bigSep_sep', bigSep_sep', bigSep_sep', bigSep_sep', bigSep_sep', bigSep_sep', bigSep_sep', bigSep_sep',
    deal (fun r => 7 - r.val) (fun r => by omega) (fun c r => (dutyTok ER (barCell c) 0 (r.val + 1) : sProp 𝕄)),
    deal (fun r => r.val + 1) (fun r => by omega) (fun c r => (dutyTok ER (recvCell c (r.val + 1) (by omega)) 0 0 : sProp 𝕄))]
  rw [bigSep_sep']

/-- Every cell's invariant, and that its round 0 is reached. -/
def records : sProp 𝕄 :=
  iprop((bigSep allCells fun g => inv m κ g) ∗ bigSep allCells fun g => reached ER g 0)

/-- The records may be used any number of times. -/
instance records_persistent : BI.Persistent (records m κ) := by unfold records; infer_instance

/-- The cells funded: from every counter at zero and the launch element, the records and every device's share. -/
theorem fund_all :
    iprop((bigSep allCells fun g => (semVal g 0 : sProp 𝕄)) ∗ BI.own (ER (initOf allCells allToks)))
      ⊢ |={Set.univ}=> iprop(∃ κ : GSem nD τ sig → ℕ, records m κ ∗ bigSep Finset.univ fun c : Dev nD => linear c) := by
  iintro ⟨Hv, Hu⟩
  imod (Rounds.fund ER (a2aRd (F := F) m) allCells allToks) $$ Hu with ⟨Hst, Hr, Hat, Htok⟩
  ihave Hb := (Rounds.bodies_intro ER (a2aRd (F := F) m) allCells) $$ [Hv Hst]
  · isplitl [Hv] <;> iassumption
  imod (inv_alloc_family allCells (Rounds.body ER (a2aRd (F := F) m)) ∅) $$ Hb with ⟨%κ, -, Hc⟩
  imodintro
  iexists κ
  unfold records
  isplitl [Hc Hr]
  · isplitl [Hc] <;> iassumption
  · iapply (Entails.of_eq (linear_eq (F := F)))
    isplitl [Hat] <;> iassumption

/-! ## What each device starts from -/

/-- Device `c`'s invariants, reached marks, positions and tokens, for the meeting and for the exchange. -/
def ghost (c : Dev nD) : sProp 𝕄 :=
  iprop(
    (inv m κ (barCell c) ∗ inv m κ (barCell (peer c 1)) ∗ inv m κ (barCell (peer c 2)) ∗ inv m κ (barCell (peer c 3)) ∗ inv m κ (barCell (peer c 4)) ∗ inv m κ (barCell (peer c 5)) ∗ inv m κ (barCell (peer c 6)) ∗ inv m κ (barCell (peer c 7)))
    ∗ (reached ER (barCell (peer c 1)) 0 ∗ reached ER (barCell (peer c 2)) 0 ∗ reached ER (barCell (peer c 3)) 0 ∗ reached ER (barCell (peer c 4)) 0 ∗ reached ER (barCell (peer c 5)) 0 ∗ reached ER (barCell (peer c 6)) 0 ∗ reached ER (barCell (peer c 7)) 0)
    ∗ (dutyTok ER (barCell (peer c 1)) 0 7 ∗ dutyTok ER (barCell (peer c 2)) 0 6 ∗ dutyTok ER (barCell (peer c 3)) 0 5 ∗ dutyTok ER (barCell (peer c 4)) 0 4 ∗ dutyTok ER (barCell (peer c 5)) 0 3 ∗ dutyTok ER (barCell (peer c 6)) 0 2 ∗ dutyTok ER (barCell (peer c 7)) 0 1)
    ∗ atPos ER (barCell c) 0 ∅ 0
    ∗ (inv m κ (sendCell c 1) ∗ inv m κ (sendCell c 2) ∗ inv m κ (sendCell c 3) ∗ inv m κ (sendCell c 4) ∗ inv m κ (sendCell c 5) ∗ inv m κ (sendCell c 6) ∗ inv m κ (sendCell c 7))
    ∗ (inv m κ (recvCell c 1) ∗ inv m κ (recvCell c 2) ∗ inv m κ (recvCell c 3) ∗ inv m κ (recvCell c 4) ∗ inv m κ (recvCell c 5) ∗ inv m κ (recvCell c 6) ∗ inv m κ (recvCell c 7))
    ∗ (inv m κ (recvCell (peer c 1) 1) ∗ inv m κ (recvCell (peer c 2) 2) ∗ inv m κ (recvCell (peer c 3) 3) ∗ inv m κ (recvCell (peer c 4) 4) ∗ inv m κ (recvCell (peer c 5) 5) ∗ inv m κ (recvCell (peer c 6) 6) ∗ inv m κ (recvCell (peer c 7) 7))
    ∗ (reached ER (sendCell c 1) 0 ∗ reached ER (sendCell c 2) 0 ∗ reached ER (sendCell c 3) 0 ∗ reached ER (sendCell c 4) 0 ∗ reached ER (sendCell c 5) 0 ∗ reached ER (sendCell c 6) 0 ∗ reached ER (sendCell c 7) 0)
    ∗ (reached ER (recvCell (peer c 1) 1) 0 ∗ reached ER (recvCell (peer c 2) 2) 0 ∗ reached ER (recvCell (peer c 3) 3) 0 ∗ reached ER (recvCell (peer c 4) 4) 0 ∗ reached ER (recvCell (peer c 5) 5) 0 ∗ reached ER (recvCell (peer c 6) 6) 0 ∗ reached ER (recvCell (peer c 7) 7) 0)
    ∗ (dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0)
    ∗ (dutyTok ER (recvCell (peer c 1) 1) 0 0 ∗ dutyTok ER (recvCell (peer c 2) 2) 0 0 ∗ dutyTok ER (recvCell (peer c 3) 3) 0 0 ∗ dutyTok ER (recvCell (peer c 4) 4) 0 0 ∗ dutyTok ER (recvCell (peer c 5) 5) 0 0 ∗ dutyTok ER (recvCell (peer c 6) 6) 0 0 ∗ dutyTok ER (recvCell (peer c 7) 7) 0 0)
    ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0)
    ∗ (atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0))

/-- The barrier cell is one of the cells; -/
theorem mem_bar (c : Dev nD) : barCell c ∈ allCells :=
  Finset.mem_map.mpr ⟨(c, .inl ()), Finset.mem_univ _, rfl⟩
/-- so is a departure cell, -/
theorem mem_send (c : Dev nD) (d : ℕ) (h0 : 0 < d) (hd : d < 8) : sendCell c d hd ∈ allCells := by
  obtain ⟨e, rfl⟩ : ∃ e, d = e + 1 := ⟨d - 1, by omega⟩
  exact Finset.mem_map.mpr ⟨(c, .inr (.inl ⟨e, by omega⟩)), Finset.mem_univ _, rfl⟩
/-- and an arrival cell. -/
theorem mem_recv (c : Dev nD) (d : ℕ) (h0 : 0 < d) (hd : d < 8) : recvCell c d hd ∈ allCells := by
  obtain ⟨e, rfl⟩ : ∃ e, d = e + 1 := ⟨d - 1, by omega⟩
  exact Finset.mem_map.mpr ⟨(c, .inr (.inr ⟨e, by omega⟩)), Finset.mem_univ _, rfl⟩

/-- The record of one cell. -/
theorem inv_at {g : GSem nD τ sig} (h : g ∈ allCells) : records m κ ⊢ inv m κ g := by
  unfold records
  have hI : (bigSep allCells (fun g => inv m κ g) : sProp 𝕄) ⊢ inv m κ g := bigSep_elim h
  iintro ⟨HI, -⟩
  iapply hI
  iexact HI

/-- Every cell has reached its first round. -/
theorem reached_of {g : GSem nD τ sig} (h : g ∈ allCells) : records m κ ⊢ (reached ER g 0 : sProp 𝕄) := by
  unfold records
  have hR : (bigSep allCells (fun g => reached ER g 0) : sProp 𝕄) ⊢ reached ER g 0 := bigSep_elim h
  iintro ⟨-, HR⟩
  iapply hR
  iexact HR

omit [FloatOps F] in
/-- A device's share, written out. -/
theorem linear_out (c : Dev nD) : (linear c : sProp 𝕄) =
    iprop((atPos ER (barCell c) 0 ∅ 0 ∗ (atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0 ∗ atPos ER (sendCell c 7) 0 ∅ 0) ∗ (atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0 ∗ atPos ER (recvCell c 7) 0 ∅ 0))
      ∗ (dutyTok ER (barCell (peer c 7)) 0 1 ∗ dutyTok ER (barCell (peer c 6)) 0 2 ∗ dutyTok ER (barCell (peer c 5)) 0 3 ∗ dutyTok ER (barCell (peer c 4)) 0 4 ∗ dutyTok ER (barCell (peer c 3)) 0 5 ∗ dutyTok ER (barCell (peer c 2)) 0 6 ∗ dutyTok ER (barCell (peer c 1)) 0 7) ∗ (dutyTok ER (sendCell c 1) 0 0 ∗ dutyTok ER (sendCell c 2) 0 0 ∗ dutyTok ER (sendCell c 3) 0 0 ∗ dutyTok ER (sendCell c 4) 0 0 ∗ dutyTok ER (sendCell c 5) 0 0 ∗ dutyTok ER (sendCell c 6) 0 0 ∗ dutyTok ER (sendCell c 7) 0 0) ∗ (dutyTok ER (recvCell (peer c 1) 1) 0 0 ∗ dutyTok ER (recvCell (peer c 2) 2) 0 0 ∗ dutyTok ER (recvCell (peer c 3) 3) 0 0 ∗ dutyTok ER (recvCell (peer c 4) 4) 0 0 ∗ dutyTok ER (recvCell (peer c 5) 5) 0 0 ∗ dutyTok ER (recvCell (peer c 6) 6) 0 0 ∗ dutyTok ER (recvCell (peer c 7) 7) 0 0)) := by
  unfold linear
  rw [bigSep_univ_eq_bigSepL [0, 1, 2, 3, 4, 5, 6] (by decide) (by decide) (fun r : Fin 7 => (atPos ER (sendCell c (r.val + 1) (by omega)) 0 ∅ 0 : sProp 𝕄)),
    bigSep_univ_eq_bigSepL [0, 1, 2, 3, 4, 5, 6] (by decide) (by decide) (fun r : Fin 7 => (atPos ER (recvCell c (r.val + 1) (by omega)) 0 ∅ 0 : sProp 𝕄)),
    bigSep_univ_eq_bigSepL [0, 1, 2, 3, 4, 5, 6] (by decide) (by decide) (fun r : Fin 7 => (dutyTok ER (barCell (peer c (7 - r.val))) 0 (r.val + 1) : sProp 𝕄)),
    bigSep_univ_eq_bigSepL [0, 1, 2, 3, 4, 5, 6] (by decide) (by decide) (fun r : Fin 7 => (dutyTok ER (sendCell c (r.val + 1) (by omega)) 0 0 : sProp 𝕄)),
    bigSep_univ_eq_bigSepL [0, 1, 2, 3, 4, 5, 6] (by decide) (by decide) (fun r : Fin 7 => (dutyTok ER (recvCell (peer c (r.val + 1)) (r.val + 1) (by omega)) 0 0 : sProp 𝕄))]
  rfl

set_option maxHeartbeats 1000000 in
/-- The records and a device's share are its ghost state. -/
theorem ghost_intro (c : Dev nD) : iprop(records m κ ∗ linear c) ⊢ ghost m κ c := by
  rw [linear_out]
  unfold ghost
  iintro ⟨#HR, ⟨HB, HAS, HAR⟩, ⟨T7, T6, T5, T4, T3, T2, T1⟩, HTS, HTP⟩
  isplitr
  · isplitr
    · iapply (inv_at m κ (mem_bar c)); iexact HR
    isplitr
    · iapply (inv_at m κ (mem_bar (peer c 1))); iexact HR
    isplitr
    · iapply (inv_at m κ (mem_bar (peer c 2))); iexact HR
    isplitr
    · iapply (inv_at m κ (mem_bar (peer c 3))); iexact HR
    isplitr
    · iapply (inv_at m κ (mem_bar (peer c 4))); iexact HR
    isplitr
    · iapply (inv_at m κ (mem_bar (peer c 5))); iexact HR
    isplitr
    · iapply (inv_at m κ (mem_bar (peer c 6))); iexact HR
    iapply (inv_at m κ (mem_bar (peer c 7))); iexact HR
  isplitr
  · isplitr
    · iapply (reached_of m κ (mem_bar (peer c 1))); iexact HR
    isplitr
    · iapply (reached_of m κ (mem_bar (peer c 2))); iexact HR
    isplitr
    · iapply (reached_of m κ (mem_bar (peer c 3))); iexact HR
    isplitr
    · iapply (reached_of m κ (mem_bar (peer c 4))); iexact HR
    isplitr
    · iapply (reached_of m κ (mem_bar (peer c 5))); iexact HR
    isplitr
    · iapply (reached_of m κ (mem_bar (peer c 6))); iexact HR
    iapply (reached_of m κ (mem_bar (peer c 7))); iexact HR
  isplitl [T1 T2 T3 T4 T5 T6 T7]
  · isplitl [T1]
    · iexact T1
    isplitl [T2]
    · iexact T2
    isplitl [T3]
    · iexact T3
    isplitl [T4]
    · iexact T4
    isplitl [T5]
    · iexact T5
    isplitl [T6]
    · iexact T6
    iexact T7
  isplitl [HB]
  · iexact HB
  isplitr
  · isplitr
    · iapply (inv_at m κ (mem_send c 1 (of_decide_eq_true rfl) (of_decide_eq_true rfl))); iexact HR
    isplitr
    · iapply (inv_at m κ (mem_send c 2 (of_decide_eq_true rfl) (of_decide_eq_true rfl))); iexact HR
    isplitr
    · iapply (inv_at m κ (mem_send c 3 (of_decide_eq_true rfl) (of_decide_eq_true rfl))); iexact HR
    isplitr
    · iapply (inv_at m κ (mem_send c 4 (of_decide_eq_true rfl) (of_decide_eq_true rfl))); iexact HR
    isplitr
    · iapply (inv_at m κ (mem_send c 5 (of_decide_eq_true rfl) (of_decide_eq_true rfl))); iexact HR
    isplitr
    · iapply (inv_at m κ (mem_send c 6 (of_decide_eq_true rfl) (of_decide_eq_true rfl))); iexact HR
    iapply (inv_at m κ (mem_send c 7 (of_decide_eq_true rfl) (of_decide_eq_true rfl))); iexact HR
  isplitr
  · isplitr
    · iapply (inv_at m κ (mem_recv c 1 (of_decide_eq_true rfl) (of_decide_eq_true rfl))); iexact HR
    isplitr
    · iapply (inv_at m κ (mem_recv c 2 (of_decide_eq_true rfl) (of_decide_eq_true rfl))); iexact HR
    isplitr
    · iapply (inv_at m κ (mem_recv c 3 (of_decide_eq_true rfl) (of_decide_eq_true rfl))); iexact HR
    isplitr
    · iapply (inv_at m κ (mem_recv c 4 (of_decide_eq_true rfl) (of_decide_eq_true rfl))); iexact HR
    isplitr
    · iapply (inv_at m κ (mem_recv c 5 (of_decide_eq_true rfl) (of_decide_eq_true rfl))); iexact HR
    isplitr
    · iapply (inv_at m κ (mem_recv c 6 (of_decide_eq_true rfl) (of_decide_eq_true rfl))); iexact HR
    iapply (inv_at m κ (mem_recv c 7 (of_decide_eq_true rfl) (of_decide_eq_true rfl))); iexact HR
  isplitr
  · isplitr
    · iapply (inv_at m κ (mem_recv (peer c 1) 1 (of_decide_eq_true rfl) (of_decide_eq_true rfl))); iexact HR
    isplitr
    · iapply (inv_at m κ (mem_recv (peer c 2) 2 (of_decide_eq_true rfl) (of_decide_eq_true rfl))); iexact HR
    isplitr
    · iapply (inv_at m κ (mem_recv (peer c 3) 3 (of_decide_eq_true rfl) (of_decide_eq_true rfl))); iexact HR
    isplitr
    · iapply (inv_at m κ (mem_recv (peer c 4) 4 (of_decide_eq_true rfl) (of_decide_eq_true rfl))); iexact HR
    isplitr
    · iapply (inv_at m κ (mem_recv (peer c 5) 5 (of_decide_eq_true rfl) (of_decide_eq_true rfl))); iexact HR
    isplitr
    · iapply (inv_at m κ (mem_recv (peer c 6) 6 (of_decide_eq_true rfl) (of_decide_eq_true rfl))); iexact HR
    iapply (inv_at m κ (mem_recv (peer c 7) 7 (of_decide_eq_true rfl) (of_decide_eq_true rfl))); iexact HR
  isplitr
  · isplitr
    · iapply (reached_of m κ (mem_send c 1 (of_decide_eq_true rfl) (of_decide_eq_true rfl))); iexact HR
    isplitr
    · iapply (reached_of m κ (mem_send c 2 (of_decide_eq_true rfl) (of_decide_eq_true rfl))); iexact HR
    isplitr
    · iapply (reached_of m κ (mem_send c 3 (of_decide_eq_true rfl) (of_decide_eq_true rfl))); iexact HR
    isplitr
    · iapply (reached_of m κ (mem_send c 4 (of_decide_eq_true rfl) (of_decide_eq_true rfl))); iexact HR
    isplitr
    · iapply (reached_of m κ (mem_send c 5 (of_decide_eq_true rfl) (of_decide_eq_true rfl))); iexact HR
    isplitr
    · iapply (reached_of m κ (mem_send c 6 (of_decide_eq_true rfl) (of_decide_eq_true rfl))); iexact HR
    iapply (reached_of m κ (mem_send c 7 (of_decide_eq_true rfl) (of_decide_eq_true rfl))); iexact HR
  isplitr
  · isplitr
    · iapply (reached_of m κ (mem_recv (peer c 1) 1 (of_decide_eq_true rfl) (of_decide_eq_true rfl))); iexact HR
    isplitr
    · iapply (reached_of m κ (mem_recv (peer c 2) 2 (of_decide_eq_true rfl) (of_decide_eq_true rfl))); iexact HR
    isplitr
    · iapply (reached_of m κ (mem_recv (peer c 3) 3 (of_decide_eq_true rfl) (of_decide_eq_true rfl))); iexact HR
    isplitr
    · iapply (reached_of m κ (mem_recv (peer c 4) 4 (of_decide_eq_true rfl) (of_decide_eq_true rfl))); iexact HR
    isplitr
    · iapply (reached_of m κ (mem_recv (peer c 5) 5 (of_decide_eq_true rfl) (of_decide_eq_true rfl))); iexact HR
    isplitr
    · iapply (reached_of m κ (mem_recv (peer c 6) 6 (of_decide_eq_true rfl) (of_decide_eq_true rfl))); iexact HR
    iapply (reached_of m κ (mem_recv (peer c 7) 7 (of_decide_eq_true rfl) (of_decide_eq_true rfl))); iexact HR
  isplitl [HTS]
  · iexact HTS
  isplitl [HTP]
  · iexact HTP
  isplitl [HAS]
  · iexact HAS
  iexact HAR

/-! ## The semaphores -/

/-- The kernel's own semaphores: all DMA semaphores but the two of the staging. -/
abbrev osem : Fin 26 → SemLoc sig := fun j => .dma ⟨j.val + 2, by have := j.isLt; show j.val + 2 < 28; omega⟩

/-- What the launch asks of the private semaphores. -/
theorem ownSemFacts : Pipeline.OwnSemFacts cfg0.spec osem := by decide

/-- The semaphores no cell is at, at zero: those of the local copies and the two unused ones. -/
def spare (c : Dev nD) : sProp 𝕄 :=
  iprop(semVal ((c : Thread nD τ), .dma 2) 0 ∗ semVal ((c : Thread nD τ), .dma 10) 0 ∗ semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0)

omit [FloatOps F] in
/-- The kernel's own semaphores, one by one: departures, arrivals, the rest. -/
theorem own_flat (c : Dev nD) : (Pipeline.ownSems0 (Ix := Unit) (Name := ℕ) (U := UU) (Lvl := ℕ) (Val := Elt F) (τ := τ) osem c : sProp 𝕄) =
    iprop(semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal ((c : Thread nD τ), .dma 2) 0 ∗ semVal ((c : Thread nD τ), .dma 10) 0 ∗ semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0) := by
  rw [Pipeline.ownSems0_eq_of_list c osem [1, 2, 3, 4, 5, 6, 7, 9, 10, 11, 12, 13, 14, 15, 0, 8, 16, 17, 18, 19, 20, 21, 22, 23, 24, 25] (by decide) (by decide)]
  rfl

omit [FloatOps F] in
/-- The barrier semaphore is the only one outside the kernel. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The own semaphores parted into departures, arrivals and the rest, -/
theorem own_out (c : Dev nD) : (Pipeline.ownSems0 (Ix := Unit) (Name := ℕ) (U := UU) (Lvl := ℕ) (Val := Elt F) (τ := τ) osem c : sProp 𝕄) ⊢
    iprop((semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ (semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) ∗ spare c) := by
  rw [own_flat]
  unfold spare
  iintro ⟨S3, S4, S5, S6, S7, S8, S9, S11, S12, S13, S14, S15, S16, S17, S2, S10, S18, S19, S20, S21, S22, S23, S24, S25, S26, S27⟩
  isplitl [S3 S4 S5 S6 S7 S8 S9]
  · isplitl [S3]
    · iexact S3
    isplitl [S4]
    · iexact S4
    isplitl [S5]
    · iexact S5
    isplitl [S6]
    · iexact S6
    isplitl [S7]
    · iexact S7
    isplitl [S8]
    · iexact S8
    iexact S9
  isplitl [S11 S12 S13 S14 S15 S16 S17]
  · isplitl [S11]
    · iexact S11
    isplitl [S12]
    · iexact S12
    isplitl [S13]
    · iexact S13
    isplitl [S14]
    · iexact S14
    isplitl [S15]
    · iexact S15
    isplitl [S16]
    · iexact S16
    iexact S17
  isplitl [S2]
  · iexact S2
  isplitl [S10]
  · iexact S10
  isplitl [S18]
  · iexact S18
  isplitl [S19]
  · iexact S19
  isplitl [S20]
  · iexact S20
  isplitl [S21]
  · iexact S21
  isplitl [S22]
  · iexact S22
  isplitl [S23]
  · iexact S23
  isplitl [S24]
  · iexact S24
  isplitl [S25]
  · iexact S25
  isplitl [S26]
  · iexact S26
  iexact S27

omit [FloatOps F] in
/-- and put together again. -/
theorem own_in (c : Dev nD) : iprop((semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0) ∗ (semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) ∗ spare c) ⊢
    (Pipeline.ownSems0 (Ix := Unit) (Name := ℕ) (U := UU) (Lvl := ℕ) (Val := Elt F) (τ := τ) osem c : sProp 𝕄) := by
  rw [own_flat]
  unfold spare
  iintro ⟨⟨S3, S4, S5, S6, S7, S8, S9⟩, ⟨S11, S12, S13, S14, S15, S16, S17⟩, S2, S10, S18, S19, S20, S21, S22, S23, S24, S25, S26, S27⟩
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  isplitl [S11]
  · iexact S11
  isplitl [S12]
  · iexact S12
  isplitl [S13]
  · iexact S13
  isplitl [S14]
  · iexact S14
  isplitl [S15]
  · iexact S15
  isplitl [S16]
  · iexact S16
  isplitl [S17]
  · iexact S17
  isplitl [S2]
  · iexact S2
  isplitl [S10]
  · iexact S10
  isplitl [S18]
  · iexact S18
  isplitl [S19]
  · iexact S19
  isplitl [S20]
  · iexact S20
  isplitl [S21]
  · iexact S21
  isplitl [S22]
  · iexact S22
  isplitl [S23]
  · iexact S23
  isplitl [S24]
  · iexact S24
  isplitl [S25]
  · iexact S25
  isplitl [S26]
  · iexact S26
  iexact S27

omit [FloatOps F] in
/-- A family over seven places, written out. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- A device's counters: its cells' and the rest. -/
theorem sems_out (c : Dev nD) :
    iprop(Pipeline.ownSems0 (Ix := Unit) (Name := ℕ) (U := UU) (Lvl := ℕ) (Val := Elt F) (τ := τ) osem c ∗ unscopedSems0 c) ⊢
      (iprop((semVal (barCell c) 0 ∗ (bigSep Finset.univ fun r : Fin 7 => semVal (sendCell c (r.val + 1) (by omega)) 0)
        ∗ bigSep Finset.univ fun r : Fin 7 => semVal (recvCell c (r.val + 1) (by omega)) 0) ∗ spare c) : sProp 𝕄) := by
  rw [unscoped_eq,
    seven (fun r : Fin 7 => (semVal (sendCell c (r.val + 1) (by omega)) 0 : sProp 𝕄)),
    seven (fun r : Fin 7 => (semVal (recvCell c (r.val + 1) (by omega)) 0 : sProp 𝕄))]
  iintro ⟨HO, HB⟩
  ihave H := (own_out (F := F) c) $$ HO
  icases H with ⟨HS, HR, HP⟩
  isplitl [HB HS HR]
  · isplitl [HB]
    · iexact HB
    isplitl [HS]
    · iexact HS
    iexact HR
  iexact HP

/-! ## The launch element and the global step -/

/-- The launch element: the staging's, every cell's first round and token, no counter. -/
def u₀ : UU :=
  (initOf (Pipeline.cells cfgs cellOf_inj) (Pipeline.launchToks cfgs cellOf_inj), (initOf allCells allToks, 1))

/-- What the launch element deals the devices: device 0 the protocol's part, the others nothing. -/
def G (c : Dev nD) : sProp 𝕄 := if c = 0 then BI.own (ER (initOf allCells allToks)) else iprop(emp)

/-- What the global step makes of it. -/
def G' (c : Dev nD) : sProp 𝕄 := iprop((∃ κ : GSem nD τ sig → ℕ, ghost m κ c) ∗ spare c)

omit [FloatOps F] in
/-- The launch element dealt out. -/
theorem u₀_split : (ownU u₀ : sProp 𝕄) ⊢
    iprop(BI.own (EP (initOf (Pipeline.cells cfgs cellOf_inj) (Pipeline.launchToks cfgs cellOf_inj))) ∗ bigSep Finset.univ (G (F := F))) := by
  have hG : (bigSep (Finset.univ.erase (0 : Dev nD)) (G (F := F)) : sProp 𝕄) = iprop(emp) :=
    (bigSep_congr fun c hc => if_neg (Finset.ne_of_mem_erase hc)).trans (bigSep_emp_const _)
  rw [bigSep_univ_at (G (F := F)) (0 : Dev nD), hG]
  unfold u₀ G
  rw [if_pos rfl]
  iintro Hu
  ihave H := (ownU_pair _ _) $$ Hu
  icases H with ⟨HP, HX⟩
  isplitl [HP]
  · iexact HP
  ihave H2 := (own_pair_emb _ _ _) $$ HX
  icases H2 with ⟨HX, -⟩
  isplitl [HX]
  · iexact HX
  iempintro

/-- A fact that can be kept together with a family can be used at each member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The global step: all devices' counters and the launch element give every device its ghost state. -/
theorem glob : (bigSep Finset.univ fun c => iprop(Pipeline.ownSems0 (Ix := Unit) (Name := ℕ) (U := UU) (Lvl := ℕ) (Val := Elt F) (τ := τ) osem c ∗ unscopedSems0 c ∗ G c) : sProp 𝕄)
    ⊢ |={Set.univ}=> bigSep Finset.univ (G' m) := by
  have h1 : (bigSep Finset.univ fun c => iprop(Pipeline.ownSems0 (Ix := Unit) (Name := ℕ) (U := UU) (Lvl := ℕ) (Val := Elt F) (τ := τ) osem c ∗ unscopedSems0 c ∗ G c) : sProp 𝕄)
      ⊢ iprop((bigSep allCells fun g => (semVal g 0 : sProp 𝕄)) ∗ (bigSep Finset.univ fun c : Dev nD => spare c) ∗ bigSep Finset.univ (G (F := F))) := by
    have h0 : ∀ c : Dev nD, iprop(Pipeline.ownSems0 (Ix := Unit) (Name := ℕ) (U := UU) (Lvl := ℕ) (Val := Elt F) (τ := τ) osem c ∗ unscopedSems0 c ∗ G c) ⊢
        (iprop(((semVal (barCell c) 0 ∗ (bigSep Finset.univ fun r : Fin 7 => semVal (sendCell c (r.val + 1) (by omega)) 0)
          ∗ bigSep Finset.univ fun r : Fin 7 => semVal (recvCell c (r.val + 1) (by omega)) 0) ∗ spare c) ∗ G c) : sProp 𝕄) := by
      intro c
      iintro ⟨HO, HU, HG⟩
      isplitl [HO HU]
      · iapply (sems_out (F := F) c)
        isplitl [HO] <;> iassumption
      · iexact HG
    refine (bigSep_mono fun c _ => h0 c).trans ?_
    rw [bigSep_sep', bigSep_sep', cells_eq]
    show (iprop((_ ∗ _) ∗ _) : sProp 𝕄) ⊢ iprop(_ ∗ _ ∗ _)
    iintro ⟨⟨H1, H2⟩, H3⟩
    isplitl [H1]
    · iexact H1
    isplitl [H2] <;> iassumption
  have h2 : (bigSep Finset.univ (G (F := F)) : sProp 𝕄) ⊢ BI.own (ER (initOf allCells allToks)) := by
    have h : (bigSep Finset.univ (G (F := F)) : sProp 𝕄) ⊢ G (0 : Dev nD) := bigSep_elim (Finset.mem_univ _)
    unfold G at h
    rw [if_pos rfl] at h
    exact h
  iintro H
  ihave H1 := h1 $$ H
  icases H1 with ⟨Hv, Hsp, HG⟩
  ihave Hu := h2 $$ HG
  imod (fund_all (F := F) m) $$ [Hv Hu] with ⟨%κ, #HR, HL⟩
  · isplitl [Hv] <;> iassumption
  imodintro
  have h3 : iprop(records m κ ∗ bigSep Finset.univ fun c : Dev nD => linear c) ⊢
      (bigSep Finset.univ fun c : Dev nD => iprop(∃ κ : GSem nD τ sig → ℕ, ghost m κ c) : sProp 𝕄) :=
    with_persistent fun c _ => by
      iintro H
      iexists κ
      iapply (ghost_intro m κ c)
      iexact H
  unfold G'
  rw [bigSep_sep']
  isplitl [HL]
  · iapply h3
    isplitr
    · iexact HR
    iexact HL
  iexact Hsp

/-! ## The launch credit -/

omit [FloatOps F] in
/-- Credit from one place: what the device `8 - d` places on owes here. -/
theorem cred_one (c : Dev nD) (d : ℕ) (hd : d ≤ 8) (sm : SemLoc sig) (n : ℕ) :
    (Pipeline.launchCred (fun e => (tallyAt ((peer e d : Thread nD τ), sm) () n : CellTallies nD τ sig Unit)) c : sProp 𝕄)
      ⊢ cred (tallyAt ((c : Thread nD τ), sm) () n) :=
  Pipeline.launchCred_tallyAt sm (fun e => peer e d) (fun e => peer e (8 - d))
    (fun e => peer_peer e (8 - d) d (by omega)) (fun e => peer_peer e d (8 - d) (by omega)) () n c

omit [FloatOps F] in
/-- One unit more. -/
theorem cred_up (c : Dev nD) (a b n : ℕ) (h : a + b = n) :
    iprop(cred (tallyAt (barCell c) () a) ∗ cred (tallyAt (barCell c) () b)) ⊢ (cred (tallyAt (barCell c) () n : CellTallies nD τ sig Unit) : sProp 𝕄) := by
  subst h
  rw [← tallyAt_add]
  exact (cred_add _ _).2

omit [FloatOps F] in
/-- The launch credit of a device: seven units at its barrier cell, a block's credit at each of its arrival cells. -/
theorem creds (c : Dev nD) : (Pipeline.launchCred O₀ c : sProp 𝕄) ⊢
    iprop(cred (tallyAt (barCell c) () 7) ∗ (cred (tallyAt (recvCell c 1) () N) ∗ cred (tallyAt (recvCell c 2) () N) ∗ cred (tallyAt (recvCell c 3) () N) ∗ cred (tallyAt (recvCell c 4) () N) ∗ cred (tallyAt (recvCell c 5) () N) ∗ cred (tallyAt (recvCell c 6) () N) ∗ cred (tallyAt (recvCell c 7) () N))) := by
  show (Pipeline.launchCred (fun e => (tallyAt (recvCell (peer e 7) 7) () N + tallyAt (recvCell (peer e 6) 6) () N + tallyAt (recvCell (peer e 5) 5) () N + tallyAt (recvCell (peer e 4) 4) () N + tallyAt (recvCell (peer e 3) 3) () N + tallyAt (recvCell (peer e 2) 2) () N + tallyAt (recvCell (peer e 1) 1) () N + tallyAt (barCell (peer e 7)) () 1 + tallyAt (barCell (peer e 6)) () 1 + tallyAt (barCell (peer e 5)) () 1 + tallyAt (barCell (peer e 4)) () 1 + tallyAt (barCell (peer e 3)) () 1 + tallyAt (barCell (peer e 2)) () 1 + tallyAt (barCell (peer e 1)) () 1 : CellTallies nD τ sig Unit)) c : sProp 𝕄) ⊢ _
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  iintro ⟨⟨⟨⟨⟨⟨⟨⟨⟨⟨⟨⟨⟨R7, R6⟩, R5⟩, R4⟩, R3⟩, R2⟩, R1⟩, B7⟩, B6⟩, B5⟩, B4⟩, B3⟩, B2⟩, B1⟩
  ihave B1 := (cred_one (F := F) c 1 (of_decide_eq_true rfl) (.reg barS) 1) $$ B1
  ihave B2 := (cred_one (F := F) c 2 (of_decide_eq_true rfl) (.reg barS) 1) $$ B2
  ihave B3 := (cred_one (F := F) c 3 (of_decide_eq_true rfl) (.reg barS) 1) $$ B3
  ihave B4 := (cred_one (F := F) c 4 (of_decide_eq_true rfl) (.reg barS) 1) $$ B4
  ihave B5 := (cred_one (F := F) c 5 (of_decide_eq_true rfl) (.reg barS) 1) $$ B5
  ihave B6 := (cred_one (F := F) c 6 (of_decide_eq_true rfl) (.reg barS) 1) $$ B6
  ihave B7 := (cred_one (F := F) c 7 (of_decide_eq_true rfl) (.reg barS) 1) $$ B7
  ihave R1 := (cred_one (F := F) c 1 (of_decide_eq_true rfl) (.dma (recvS 1 (of_decide_eq_true rfl))) N) $$ R1
  ihave R2 := (cred_one (F := F) c 2 (of_decide_eq_true rfl) (.dma (recvS 2 (of_decide_eq_true rfl))) N) $$ R2
  ihave R3 := (cred_one (F := F) c 3 (of_decide_eq_true rfl) (.dma (recvS 3 (of_decide_eq_true rfl))) N) $$ R3
  ihave R4 := (cred_one (F := F) c 4 (of_decide_eq_true rfl) (.dma (recvS 4 (of_decide_eq_true rfl))) N) $$ R4
  ihave R5 := (cred_one (F := F) c 5 (of_decide_eq_true rfl) (.dma (recvS 5 (of_decide_eq_true rfl))) N) $$ R5
  ihave R6 := (cred_one (F := F) c 6 (of_decide_eq_true rfl) (.dma (recvS 6 (of_decide_eq_true rfl))) N) $$ R6
  ihave R7 := (cred_one (F := F) c 7 (of_decide_eq_true rfl) (.dma (recvS 7 (of_decide_eq_true rfl))) N) $$ R7
  ihave H := (cred_up (F := F) c 1 1 2 rfl) $$ [B1 B2]
  · isplitl [B1] <;> iassumption
  ihave H := (cred_up (F := F) c 2 1 3 rfl) $$ [H B3]
  · isplitl [H] <;> iassumption
  ihave H := (cred_up (F := F) c 3 1 4 rfl) $$ [H B4]
  · isplitl [H] <;> iassumption
  ihave H := (cred_up (F := F) c 4 1 5 rfl) $$ [H B5]
  · isplitl [H] <;> iassumption
  ihave H := (cred_up (F := F) c 5 1 6 rfl) $$ [H B6]
  · isplitl [H] <;> iassumption
  ihave H := (cred_up (F := F) c 6 1 7 rfl) $$ [H B7]
  · isplitl [H] <;> iassumption
  isplitl [H]
  · iexact H
  isplitl [R1]
  · iexact R1
  isplitl [R2]
  · iexact R2
  isplitl [R3]
  · iexact R3
  isplitl [R4]
  · iexact R4
  isplitl [R5]
  · iexact R5
  isplitl [R6]
  · iexact R6
  iexact R7

end Cert.AllToAll

end
-- ==== Proof.Body1.lean ====
/-
The body from its start to the first copy of an outgoing block: the prefetches, the meeting at the barrier, the filling of
the outgoing blocks.
-/
module

public import proofs.«01_k».proof.Proof.Held

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

attribute [local sl_rounds] duties_bar amount_bar expect_bar payload_bar

set_option maxHeartbeats 4000000 in
set_option maxRecDepth 8192 in
def body1 (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fo : Buf (Elt F) ((c : Thread nD τ).loc main_v1))
    (g0 : Buf (Elt F) ((c : Thread nD τ).loc cc0_stg0_0)) (g1 : Buf (Elt F) ((c : Thread nD τ).loc cc0_stg1_0)) :
    Σ' (G : Prop), G → Runs m κ c W f0 f1 f2 f3 f4 fo g0 g1 := by
  sl_stretch
  intro K
  unfold held meet weights
  iintro ⟨⟨⟨⟨#Ib, #Ib1, #Ib2, #Ib3, #Ib4, #Ib5, #Ib6, #Ib7⟩, ⟨#R1, #R2, #R3, #R4, #R5, #R6, #R7⟩, #Hlev, ⟨T1, T2, T3, T4, T5, T6, T7⟩, Hat, Hc,
    ⟨C0, C1, C2, C3, C4, C5, C6, C7⟩⟩, Hex, Hfin, HO, Hx, ⟨W0, W1, W2, W3⟩, Hsb, ⟨B0, B1, B2, B3⟩, Hxb, ⟨S27, S19, S20, S21, S22⟩⟩, HK⟩
  have e1 := hdev1 c
  have e2 := hdev2 c
  have e3 := hdev3 c
  have e4 := hdev4 c
  have e5 := hdev5 c
  have e6 := hdev6 c
  have e7 := hdev7 c
  have hmb := mayWait_bar (F := F) c
  have hml := mayWait_local' (F := F) c 27 (by decide)
  unfold O₀
  unfold prog
  rw [cc0_body_eq_skeleton]; unfold cc0_body_skel
  set_option sl_exec.stopBefore "k0_part6" in sl_exec_parts
  sl_seam

end Cert.AllToAll

end
-- ==== Proof.Filled.lean ====
/-
The outgoing blocks once they are filled, and what the first copies need.
-/
module

public import proofs.«01_k».proof.Proof.Body1
public import Idealize.ShloMosaic.Lib.Pipeline.Value
public import Idealize.ShloMosaic.Lib.Pipeline.ReadBack

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- A load through any rectangle, after one write of everything, reads that write. -/
theorem readCov_whole {Val : EltTy → Type} [∀ e, Nonempty (Val e)] {sig : RefSig} {κ : Kind} {sp : Space} {s : Shape} {e : EltTy}
    (v : View sig κ sp s e) (Z : s.Idx → Val e) (r : Rect s) (j : r.shape.Idx) :
    v.readCov [⟨Rect.whole s, Z⟩] r.toLoadRect j = Z (r.emb j) := by
  have h := View.read_writes_cons_emb (Val := Val) v v.junk (Rect.whole s) Z [] (r.emb j)
  rw [Rect.emb_whole_apply] at h
  exact h

/-- A filled block is the corresponding block of the contents the outgoing array is to have. -/
theorem out_piece (c : Dev nD) {j o : ℕ} (ho : o = 512 * j) (inb3 : ∀ a, (![j, 0, 0] : Fin 3 → ℕ) a + S1x512x512.size a ≤ S8x512x512.size a)
    (inb : ∀ a, (![o, 0] : Fin 2 → ℕ) a + S512x512.size a ≤ S4096x512.size a) (x : S1x512x512.Idx) :
    shapeCast S1x512x512 (truncf .fp8e5m2 (xbM.view.readCov [⟨Rect.whole S4096x512, body1.sl.dma0 m c⟩]
        (Rect.unit (s := S4096x512) ![o, 0] S512x512.size inb).toLoadRect : FVec F S512x512 .f32) bitsLt_fp8e5m2_f32) shapeCasts_S512x512_S1x512x512 x
      = sbF m c ((Rect.unit (s := S8x512x512) ![j, 0, 0] S1x512x512.size inb3).emb x) := by
  subst ho
  refine (shapeCast_addUnit_apply ![512, 512] _ _ x).trans ?_
  refine (congrArg (FloatOps.truncf .fp8e5m2 bitsLt_fp8e5m2_f32) (readCov_whole xbM.view (body1.sl.dma0 m c)
    (Rect.unit (s := S4096x512) ![512 * j, 0] S512x512.size inb) (fun a => x a.succ))).trans ?_
  show FloatOps.truncf .fp8e5m2 bitsLt_fp8e5m2_f32 ((m ((c : Thread nD τ).loc main_arg0) : S4096x512.Idx → Elt F .f32) _)
    = FloatOps.truncf .fp8e5m2 bitsLt_fp8e5m2_f32 ((m ((c : Thread nD τ).loc main_arg0) : S4096x512.Idx → Elt F .f32) _)
  congr 2
  have hx : (x 0).val < 1 := (x 0).isLt
  funext a
  match a with
  | ⟨0, _⟩ => apply Fin.ext; show 512 * j + 1 * (x 1).val = 512 * (j + 1 * (x 0).val) + (0 + 1 * (x 1).val); omega
  | ⟨1, _⟩ => apply Fin.ext; show 0 + 1 * (x 2).val = 0 + 1 * (x 2).val; rfl

/-- The outgoing array, after its eight stores, holds the activations block by block. -/
theorem filled (c : Dev nD) (f0 : Buf (Elt F) ((c : Thread nD τ).loc cc0_scratch0)) :
    sbM.view.writes (Elt F) f0
      (⟨Rect.unit ![7, 0, 0] S1x512x512.size inb_S8x512x512_S1x512x512_7_0_0, k0_pay9 (body1.sl.v109 m c)⟩ ::
        ⟨Rect.unit ![6, 0, 0] S1x512x512.size inb_S8x512x512_S1x512x512_6_0_0, k0_pay8 (body1.sl.r m c)⟩ ::
          body1.sl.Hsb_6 m c) = sbF m c := by
  funext y
  generalize hL : (⟨Rect.unit ![7, 0, 0] S1x512x512.size inb_S8x512x512_S1x512x512_7_0_0, k0_pay9 (body1.sl.v109 m c)⟩ ::
        ⟨Rect.unit ![6, 0, 0] S1x512x512.size inb_S8x512x512_S1x512x512_6_0_0, k0_pay8 (body1.sl.r m c)⟩ ::
          body1.sl.Hsb_6 m c : List (View.Piece (Elt F) S8x512x512 .fp8e5m2)) = L
  show sbM.view.read (Elt F) (sbM.view.writes (Elt F) f0 L) y = sbF m c y
  refine View.read_writes_apply_of_pieces sbM.view f0 (sbF m c) L (View.PiecesOf.mem ?_) y ?_ <;> subst hL
  · refine ⟨fun x => ?_, fun x => ?_, fun x => ?_, fun x => ?_, fun x => ?_, fun x => ?_, fun x => ?_, fun x => ?_, trivial⟩
    · exact out_piece m c (j := 7) (o := 3584) (by decide) inb_S8x512x512_S1x512x512_7_0_0 inb_S4096x512_S512x512_3584_0 x
    · exact out_piece m c (j := 6) (o := 3072) (by decide) inb_S8x512x512_S1x512x512_6_0_0 inb_S4096x512_S512x512_3072_0 x
    · exact out_piece m c (j := 5) (o := 2560) (by decide) inb_S8x512x512_S1x512x512_5_0_0 inb_S4096x512_S512x512_2560_0 x
    · exact out_piece m c (j := 4) (o := 2048) (by decide) inb_S8x512x512_S1x512x512_4_0_0 inb_S4096x512_S512x512_2048_0 x
    · exact out_piece m c (j := 3) (o := 1536) (by decide) inb_S8x512x512_S1x512x512_3_0_0 inb_S4096x512_S512x512_1536_0 x
    · exact out_piece m c (j := 2) (o := 1024) (by decide) inb_S8x512x512_S1x512x512_2_0_0 inb_S4096x512_S512x512_1024_0 x
    · exact out_piece m c (j := 1) (o := 512) (by decide) inb_S8x512x512_S1x512x512_1_0_0 inb_S4096x512_S512x512_512_0 x
    · exact out_piece m c (j := 0) (o := 0) (by decide) inb_S8x512x512_S1x512x512_0_0_0 inb_S4096x512_S512x512_0_0 x
  · have hy : (y 0).val < 8 := (y 0).isLt
    have key : ∀ (d : ℕ) (inb) , (y 0).val = d → y ∈ (Rect.unit (s := S8x512x512) ![d, 0, 0] S1x512x512.size inb).set := fun d inb h => by
      refine Rect.mem_set_unit.mpr fun a => ?_
      match a with
      | ⟨0, _⟩ => show d ≤ (y 0).val ∧ (y 0).val < d + 1; omega
      | ⟨1, _⟩ => exact ⟨Nat.zero_le _, by have := (y 1).isLt; show (y 1).val < 0 + 512; rw [Nat.zero_add]; exact this⟩
      | ⟨2, _⟩ => exact ⟨Nat.zero_le _, by have := (y 2).isLt; show (y 2).val < 0 + 512; rw [Nat.zero_add]; exact this⟩
    rcases (by omega : (y 0).val = 0 ∨ (y 0).val = 1 ∨ (y 0).val = 2 ∨ (y 0).val = 3 ∨ (y 0).val = 4 ∨ (y 0).val = 5 ∨ (y 0).val = 6 ∨ (y 0).val = 7)
      with h | h | h | h | h | h | h | h
    · exact ⟨_, .tail _ (.tail _ (.tail _ (.tail _ (.tail _ (.tail _ (.tail _ (.head _))))))), key 0 inb_S8x512x512_S1x512x512_0_0_0 h⟩
    · exact ⟨_, .tail _ (.tail _ (.tail _ (.tail _ (.tail _ (.tail _ (.head _)))))), key 1 inb_S8x512x512_S1x512x512_1_0_0 h⟩
    · exact ⟨_, .tail _ (.tail _ (.tail _ (.tail _ (.tail _ (.head _))))), key 2 inb_S8x512x512_S1x512x512_2_0_0 h⟩
    · exact ⟨_, .tail _ (.tail _ (.tail _ (.tail _ (.head _)))), key 3 inb_S8x512x512_S1x512x512_3_0_0 h⟩
    · exact ⟨_, .tail _ (.tail _ (.tail _ (.head _))), key 4 inb_S8x512x512_S1x512x512_4_0_0 h⟩
    · exact ⟨_, .tail _ (.tail _ (.head _)), key 5 inb_S8x512x512_S1x512x512_5_0_0 h⟩
    · exact ⟨_, .tail _ (.head _), key 6 inb_S8x512x512_S1x512x512_6_0_0 h⟩
    · exact ⟨_, .head _, key 7 inb_S8x512x512_S1x512x512_7_0_0 h⟩

/-- The outgoing array is the device's own block and the blocks of the seven copies. -/
theorem out_split (c : Dev nD) (f : Buf (Elt F) ((c : Thread nD τ).loc cc0_scratch0)) :
    (pts c sbM fullShare f : sProp 𝕄) = iprop(pts c (sbOwn c) fullShare f ∗ sbPts c 0 f ∗ sbPts c 1 f ∗ sbPts c 2 f ∗ sbPts c 3 f ∗ sbPts c 4 f
      ∗ sbPts c 5 f ∗ sbPts c 6 f) :=
  ((congrArg (fun S => ((c : Thread nD τ).loc cc0_scratch0 ↦[S]{fullShare} f : sProp 𝕄)) (View.set_whole cc0_scratch0)).trans (sb_slots c f)).trans
    (bigSep_univ_eq_bigSepL [0, 1, 2, 3, 4, 5, 6, 7] (by decide) (by decide) _)

/-- The outgoing blocks, filled, each by itself. -/
theorem out_filled (c : Dev nD) (f0 : Buf (Elt F) ((c : Thread nD τ).loc cc0_scratch0)) :
    (pts c sbM fullShare (sbM.view.writes (Elt F) f0
      (⟨Rect.unit ![7, 0, 0] S1x512x512.size inb_S8x512x512_S1x512x512_7_0_0, k0_pay9 (body1.sl.v109 m c)⟩ ::
        ⟨Rect.unit ![6, 0, 0] S1x512x512.size inb_S8x512x512_S1x512x512_6_0_0, k0_pay8 (body1.sl.r m c)⟩ ::
          body1.sl.Hsb_6 m c)) : sProp 𝕄)
      ⊢ iprop(pts c (sbOwn c) fullShare (sbF m c) ∗ sbPts c 0 (sbF m c) ∗ sbPts c 1 (sbF m c) ∗ sbPts c 2 (sbF m c) ∗ sbPts c 3 (sbF m c)
        ∗ sbPts c 4 (sbF m c) ∗ sbPts c 5 (sbF m c) ∗ sbPts c 6 (sbF m c)) := by
  rw [filled, out_split]

omit [FloatOps F] in
/-- What the barrier hands over: the seven landing slots device `c` fills. -/
theorem slots_given (c : Dev nD) : ((BI.sep (iprop(∃ f, cmPts (F := F) (peer c 1) 1 (by decide) f) : sProp 𝕄) (BI.sep (iprop(∃ f, cmPts (F := F) (peer c 2) 2 (by decide) f) : sProp 𝕄) (BI.sep (iprop(∃ f, cmPts (F := F) (peer c 3) 3 (by decide) f) : sProp 𝕄) (BI.sep (iprop(∃ f, cmPts (F := F) (peer c 4) 4 (by decide) f) : sProp 𝕄) (BI.sep (iprop(∃ f, cmPts (F := F) (peer c 5) 5 (by decide) f) : sProp 𝕄) (BI.sep (iprop(∃ f, cmPts (F := F) (peer c 6) 6 (by decide) f) : sProp 𝕄) iprop(∃ f, cmPts (F := F) (peer c 7) 7 (by decide) f))))))) : sProp 𝕄)
    ⊢ iprop((∃ f, cmPts (F := F) (peer c 1) 1 (by decide) f) ∗ (∃ f, cmPts (F := F) (peer c 2) 2 (by decide) f) ∗ (∃ f, cmPts (F := F) (peer c 3) 3 (by decide) f) ∗ (∃ f, cmPts (F := F) (peer c 4) 4 (by decide) f) ∗ (∃ f, cmPts (F := F) (peer c 5) 5 (by decide) f) ∗ (∃ f, cmPts (F := F) (peer c 6) 6 (by decide) f) ∗ (∃ f, cmPts (F := F) (peer c 7) 7 (by decide) f)) := .rfl

/-- The block that leaves for each of the seven peers. -/
theorem off5_1 (c : Dev nD) : k0_off5 c 1#32 = ![(peer c 1).val, 0, 0] :=
  (k0_off5_eq c 0).trans (congrArg (fun n : ℕ => (![n, 0, 0] : Fin 3 → ℕ)) (by rw [peer_val]; show (c.val + 0 + 1) % 8 = _; omega))
theorem off5_2 (c : Dev nD) : k0_off5 c 2#32 = ![(peer c 2).val, 0, 0] :=
  (k0_off5_eq c 1).trans (congrArg (fun n : ℕ => (![n, 0, 0] : Fin 3 → ℕ)) (by rw [peer_val]; show (c.val + 1 + 1) % 8 = _; omega))
theorem off5_3 (c : Dev nD) : k0_off5 c 3#32 = ![(peer c 3).val, 0, 0] :=
  (k0_off5_eq c 2).trans (congrArg (fun n : ℕ => (![n, 0, 0] : Fin 3 → ℕ)) (by rw [peer_val]; show (c.val + 2 + 1) % 8 = _; omega))
theorem off5_4 (c : Dev nD) : k0_off5 c 4#32 = ![(peer c 4).val, 0, 0] :=
  (k0_off5_eq c 3).trans (congrArg (fun n : ℕ => (![n, 0, 0] : Fin 3 → ℕ)) (by rw [peer_val]; show (c.val + 3 + 1) % 8 = _; omega))
theorem off5_5 (c : Dev nD) : k0_off5 c 5#32 = ![(peer c 5).val, 0, 0] :=
  (k0_off5_eq c 4).trans (congrArg (fun n : ℕ => (![n, 0, 0] : Fin 3 → ℕ)) (by rw [peer_val]; show (c.val + 4 + 1) % 8 = _; omega))
theorem off5_6 (c : Dev nD) : k0_off5 c 6#32 = ![(peer c 6).val, 0, 0] :=
  (k0_off5_eq c 5).trans (congrArg (fun n : ℕ => (![n, 0, 0] : Fin 3 → ℕ)) (by rw [peer_val]; show (c.val + 5 + 1) % 8 = _; omega))
theorem off5_7 (c : Dev nD) : k0_off5 c 7#32 = ![(peer c 7).val, 0, 0] :=
  (k0_off5_eq c 6).trans (congrArg (fun n : ℕ => (![n, 0, 0] : Fin 3 → ℕ)) (by rw [peer_val]; show (c.val + 6 + 1) % 8 = _; omega))

end Cert.AllToAll

end
-- ==== Proof.Moves.lean ====
module

public import proofs.«01_k».proof.Proof.Filled

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- The outgoing block at offset `o`, whole, with contents `f`. -/
abbrev sbAt (c : Dev nD) (o : Fin 3 → ℕ) (h : ∀ a, o a + S1x512x512.size a ≤ S8x512x512.size a)
    (f : Buf (Elt F) ((c : Thread nD τ).loc cc0_scratch0)) : sProp 𝕄 :=
  ((sbM.slice (Rect.unit (s := S8x512x512) o S1x512x512.size h) (fun _ => rfl)).squeeze S512x512
      squeezes_S1x512x512_S512x512).view.loc (c : Thread nD τ)
    ↦[((sbM.slice (Rect.unit (s := S8x512x512) o S1x512x512.size h) (fun _ => rfl)).squeeze S512x512
      squeezes_S1x512x512_S512x512).view.set]{fullShare} f

/-- The block of a copy, its offset spelt as the copy spells it. -/
theorem at1 (c : Dev nD) (f) : sbPts (F := F) c 0 f = sbAt c (k0_off5 c 1#32) (k0_off5_inb c 0) f := rfl
theorem at2 (c : Dev nD) (f) : sbPts (F := F) c 1 f = sbAt c (k0_off5 c 2#32) (k0_off5_inb c 1) f := rfl
theorem at3 (c : Dev nD) (f) : sbPts (F := F) c 2 f = sbAt c (k0_off5 c 3#32) (k0_off5_inb c 2) f := rfl
theorem at4 (c : Dev nD) (f) : sbPts (F := F) c 3 f = sbAt c (k0_off5 c 4#32) (k0_off5_inb c 3) f := rfl
theorem at5 (c : Dev nD) (f) : sbPts (F := F) c 4 f = sbAt c (k0_off5 c 5#32) (k0_off5_inb c 4) f := rfl
theorem at6 (c : Dev nD) (f) : sbPts (F := F) c 5 f = sbAt c (k0_off5 c 6#32) (k0_off5_inb c 5) f := rfl
theorem at7 (c : Dev nD) (f) : sbPts (F := F) c 6 f = sbAt c (k0_off5 c 7#32) (k0_off5_inb c 6) f := rfl

/-- What a departure hands back, so spelt. -/
theorem payload_send1 (c : Dev nD) :
    (a2aRd (F := F) m).payload (sendCell c 1) 0 0 = sbAt c (k0_off5 c 1#32) (k0_off5_inb c 0) (sbF m c) := payload_send m c 0
theorem payload_send2 (c : Dev nD) :
    (a2aRd (F := F) m).payload (sendCell c 2) 0 0 = sbAt c (k0_off5 c 2#32) (k0_off5_inb c 1) (sbF m c) := payload_send m c 1
theorem payload_send3 (c : Dev nD) :
    (a2aRd (F := F) m).payload (sendCell c 3) 0 0 = sbAt c (k0_off5 c 3#32) (k0_off5_inb c 2) (sbF m c) := payload_send m c 2
theorem payload_send4 (c : Dev nD) :
    (a2aRd (F := F) m).payload (sendCell c 4) 0 0 = sbAt c (k0_off5 c 4#32) (k0_off5_inb c 3) (sbF m c) := payload_send m c 3
theorem payload_send5 (c : Dev nD) :
    (a2aRd (F := F) m).payload (sendCell c 5) 0 0 = sbAt c (k0_off5 c 5#32) (k0_off5_inb c 4) (sbF m c) := payload_send m c 4
theorem payload_send6 (c : Dev nD) :
    (a2aRd (F := F) m).payload (sendCell c 6) 0 0 = sbAt c (k0_off5 c 6#32) (k0_off5_inb c 5) (sbF m c) := payload_send m c 5
theorem payload_send7 (c : Dev nD) :
    (a2aRd (F := F) m).payload (sendCell c 7) 0 0 = sbAt c (k0_off5 c 7#32) (k0_off5_inb c 6) (sbF m c) := payload_send m c 6

/-- What landing slot `d` of device `e` holds once the block at offset `o` of device `c` has been moved over contents `fd`. -/
def movedOver (c e : Dev nD) (o : Fin 3 → ℕ) (h : ∀ a, o a + S1x512x512.size a ≤ S8x512x512.size a) (d : ℕ) (hd : d < 8)
    (fd : Buf (Elt F) ((cmSlot d hd).view.loc (e : Thread nD τ))) : Buf (Elt F) ((cmSlot d hd).view.loc (e : Thread nD τ)) :=
  (cmSlot d hd).view.write (Elt F) fd
    (((sbM.slice (Rect.unit (s := S8x512x512) o S1x512x512.size h) (fun _ => rfl)).squeeze
      S512x512 squeezes_S1x512x512_S512x512).view.read (Elt F) (sbF m c)) Finset.univ

/-- What an arrival hands over, as the copy leaves it. -/
theorem payload_land1 (c : Dev nD) :
    (a2aRd (F := F) m).payload (recvCell (peer c 1) 1) 0 0
      = iprop(∃ fd, (cmSlot 1 (by decide)).view.loc (peer c 1 : Thread nD τ) ↦[(cmSlot 1 (by decide)).view.set]{fullShare}
        movedOver m c (peer c 1) (k0_off5 c 1#32) (k0_off5_inb c 0) 1 (by decide) fd) :=
  arrival_eq m c (peer c 1) (off5_1 c) (peer_peer c 1 7 rfl)
theorem payload_land2 (c : Dev nD) :
    (a2aRd (F := F) m).payload (recvCell (peer c 2) 2) 0 0
      = iprop(∃ fd, (cmSlot 2 (by decide)).view.loc (peer c 2 : Thread nD τ) ↦[(cmSlot 2 (by decide)).view.set]{fullShare}
        movedOver m c (peer c 2) (k0_off5 c 2#32) (k0_off5_inb c 1) 2 (by decide) fd) :=
  arrival_eq m c (peer c 2) (off5_2 c) (peer_peer c 2 6 rfl)
theorem payload_land3 (c : Dev nD) :
    (a2aRd (F := F) m).payload (recvCell (peer c 3) 3) 0 0
      = iprop(∃ fd, (cmSlot 3 (by decide)).view.loc (peer c 3 : Thread nD τ) ↦[(cmSlot 3 (by decide)).view.set]{fullShare}
        movedOver m c (peer c 3) (k0_off5 c 3#32) (k0_off5_inb c 2) 3 (by decide) fd) :=
  arrival_eq m c (peer c 3) (off5_3 c) (peer_peer c 3 5 rfl)
theorem payload_land4 (c : Dev nD) :
    (a2aRd (F := F) m).payload (recvCell (peer c 4) 4) 0 0
      = iprop(∃ fd, (cmSlot 4 (by decide)).view.loc (peer c 4 : Thread nD τ) ↦[(cmSlot 4 (by decide)).view.set]{fullShare}
        movedOver m c (peer c 4) (k0_off5 c 4#32) (k0_off5_inb c 3) 4 (by decide) fd) :=
  arrival_eq m c (peer c 4) (off5_4 c) (peer_peer c 4 4 rfl)
theorem payload_land5 (c : Dev nD) :
    (a2aRd (F := F) m).payload (recvCell (peer c 5) 5) 0 0
      = iprop(∃ fd, (cmSlot 5 (by decide)).view.loc (peer c 5 : Thread nD τ) ↦[(cmSlot 5 (by decide)).view.set]{fullShare}
        movedOver m c (peer c 5) (k0_off5 c 5#32) (k0_off5_inb c 4) 5 (by decide) fd) :=
  arrival_eq m c (peer c 5) (off5_5 c) (peer_peer c 5 3 rfl)
theorem payload_land6 (c : Dev nD) :
    (a2aRd (F := F) m).payload (recvCell (peer c 6) 6) 0 0
      = iprop(∃ fd, (cmSlot 6 (by decide)).view.loc (peer c 6 : Thread nD τ) ↦[(cmSlot 6 (by decide)).view.set]{fullShare}
        movedOver m c (peer c 6) (k0_off5 c 6#32) (k0_off5_inb c 5) 6 (by decide) fd) :=
  arrival_eq m c (peer c 6) (off5_6 c) (peer_peer c 6 2 rfl)
theorem payload_land7 (c : Dev nD) :
    (a2aRd (F := F) m).payload (recvCell (peer c 7) 7) 0 0
      = iprop(∃ fd, (cmSlot 7 (by decide)).view.loc (peer c 7 : Thread nD τ) ↦[(cmSlot 7 (by decide)).view.set]{fullShare}
        movedOver m c (peer c 7) (k0_off5 c 7#32) (k0_off5_inb c 6) 7 (by decide) fd) :=
  arrival_eq m c (peer c 7) (off5_7 c) (peer_peer c 7 1 rfl)

/-- A copy of a whole block, seen as one write. -/
theorem writes_whole_congr {sp : Space} {s : Shape} {e : EltTy} (v : View sig .tc sp s e) (f : v.ty.Contents (Elt F)) (w : s.Idx → Elt F e)
    {i : v.ty.shape.Idx} (hi : i ∈ v.set) : v.writes (Elt F) f [⟨Rect.whole s, w⟩] i = v.write (Elt F) f w Finset.univ i := by
  obtain ⟨y, -, rfl⟩ := Finset.mem_map.mp hi
  rw [View.writes_singleton, View.write_emb_of_mem _ _ (Finset.mem_univ y)]
  have h := View.write_emb_of_mem (Val := Elt F) (v := v.slice (Rect.whole s)) f w (Finset.mem_univ y)
  have he : (v.slice (Rect.whole s)).emb y = v.emb y := congrArg v.emb (Rect.emb_whole_apply s y)
  rw [he] at h
  exact h

/-- The device's own block, copied into landing slot 0. -/
theorem own_landed (c : Dev nD) (fd : Buf (Elt F) ((c : Thread nD τ).loc cc0_scratch1)) :
    cmPts c 0 (by decide) ((cmSlot 0 (by decide)).view.writes (Elt F) fd [⟨Rect.whole S512x512,
        ReadAs.same.apply ((((sbM.slice (Rect.unit (s := S8x512x512) (k0_off4 c) S1x512x512.size (k0_off4_inb c)) (fun _ => rfl)).squeeze S512x512
          squeezes_S1x512x512_S512x512).view.read (Elt F) (sbF m c)))⟩])
      = (cmPts c 0 (by decide) (cmF m c) : sProp 𝕄) :=
  (pointsTo_congr fun i hi => writes_whole_congr _ _ _ hi).trans (landed_eq m c c (k0_off4_eq c) (Fin.ext (by have : c.val < 8 := c.isLt; rw [peer_val]; omega)) fd)

end Cert.AllToAll

end
-- ==== Proof.Body2.lean ====
module

public import proofs.«01_k».proof.Proof.Moves

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

attribute [local sl_rounds] duties_send duties_recv amount_send amount_recv expect_send expect_recv payload_land1 payload_land2 payload_land3 payload_land4 payload_land5 payload_land6 payload_land7 payload_send1 payload_send2 payload_send3 payload_send4 payload_send5 payload_send6 payload_send7

set_option maxHeartbeats 4000000 in
set_option maxRecDepth 8192 in
/-- The exchange: the seven remote copies, the copy of the own block and the wait for it. -/
def body2 (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fo : Buf (Elt F) ((c : Thread nD τ).loc main_v1))
    (g0 : Buf (Elt F) ((c : Thread nD τ).loc cc0_stg0_0)) (g1 : Buf (Elt F) ((c : Thread nD τ).loc cc0_stg1_0)) :
    Σ' (G : Prop), G → (body1 m κ c W f0 f1 f2 f3 f4 fo g0 g1).1 := by
  sl_stretch
  sl_resume
  unfold exchange finish
  icases Hex with ⟨⟨#Is1, #Is2, #Is3, #Is4, #Is5, #Is6, #Is7⟩, ⟨#Ir1, #Ir2, #Ir3, #Ir4, #Ir5, #Ir6, #Ir7⟩, ⟨#Ip1, #Ip2, #Ip3, #Ip4, #Ip5, #Ip6, #Ip7⟩,
    ⟨#Rs1, #Rs2, #Rs3, #Rs4, #Rs5, #Rs6, #Rs7⟩, ⟨#Rp1, #Rp2, #Rp3, #Rp4, #Rp5, #Rp6, #Rp7⟩, ⟨Ts1, Ts2, Ts3, Ts4, Ts5, Ts6, Ts7⟩,
    ⟨Tp1, Tp2, Tp3, Tp4, Tp5, Tp6, Tp7⟩, ⟨As1, As2, As3, As4, As5, As6, As7⟩, ⟨Ar1, Ar2, Ar3, Ar4, Ar5, Ar6, Ar7⟩,
    ⟨Cr1, Cr2, Cr3, Cr4, Cr5, Cr6, Cr7⟩⟩
  icases Hfin with ⟨Hg0, Hg1, Hob, Hout, ⟨S18, S23, S24, S25, S26⟩⟩
  ihave Hat_pay1 := (slots_given (F := F) c) $$ Hat_pay1
  icases Hat_pay1 with ⟨⟨%h1, D1⟩, ⟨%h2, D2⟩, ⟨%h3, D3⟩, ⟨%h4, D4⟩, ⟨%h5, D5⟩, ⟨%h6, D6⟩, %h7, D7⟩
  ihave Hsb := (out_filled m c f0) $$ Hsb
  icases Hsb with ⟨Hown, Q1, Q2, Q3, Q4, Q5, Q6, Q7⟩
  ihave Q1 := (Entails.of_eq (at1 c (sbF m c))) $$ Q1
  ihave Q2 := (Entails.of_eq (at2 c (sbF m c))) $$ Q2
  ihave Q3 := (Entails.of_eq (at3 c (sbF m c))) $$ Q3
  ihave Q4 := (Entails.of_eq (at4 c (sbF m c))) $$ Q4
  ihave Q5 := (Entails.of_eq (at5 c (sbF m c))) $$ Q5
  ihave Q6 := (Entails.of_eq (at6 c (sbF m c))) $$ Q6
  ihave Q7 := (Entails.of_eq (at7 c (sbF m c))) $$ Q7
  have e8 := hdev8 c
  have e9 := hdev9 c
  have e10 := hdev10 c
  have e11 := hdev11 c
  have e12 := hdev12 c
  have e13 := hdev13 c
  have e14 := hdev14 c
  unfold OR sbAt cmPts
  set_option sl_exec.stopBefore "k0_part9" in sl_exec_parts
  unfold body2.sl.dma0
  ihave C0 := (Entails.of_eq (own_landed m c _)) $$ C0
  sl_seam

end Cert.AllToAll

end
-- ==== Proof.Columns.lean ====
/-
The four column groups of the result, and of the array it is accumulated in.
-/
module

public import proofs.«01_k».proof.Proof.Body2

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- Column group `n` of an array of 512 rows and 8192 columns is the elements whose column falls in it. -/
theorem mem_cols {n o : ℕ} (ho : o = 2048 * n) (inb : ∀ a, (![0, o] : Fin 2 → ℕ) a + S512x2048.size a ≤ S512x8192.size a)
    (i : S512x8192.Idx) : i ∈ (Rect.unit (s := S512x8192) ![0, o] S512x2048.size inb).set ↔ (i 1).val / 2048 = n := by
  subst ho
  rw [Rect.mem_set_unit]
  constructor
  · intro h
    have h1 : 2048 * n ≤ (i 1).val ∧ (i 1).val < 2048 * n + 2048 := h 1
    omega
  · intro h a
    match a with
    | ⟨0, _⟩ => have : (i 0).val < 512 := (i 0).isLt; show 0 ≤ (i 0).val ∧ (i 0).val < 0 + 512; omega
    | ⟨1, _⟩ => show 2048 * n ≤ (i 1).val ∧ (i 1).val < 2048 * n + 2048; omega

/-- A column group lies inside the result. -/
theorem inb_cols {n : ℕ} (hn : n < 4) : ∀ a : Fin 2, (![0, 2048 * n] : Fin 2 → ℕ) a + S512x2048.size a ≤ S512x8192.size a := by
  intro a
  match a with
  | ⟨0, _⟩ => show 0 + 512 ≤ 512; decide
  | ⟨1, _⟩ => show 2048 * n + 2048 ≤ 8192; omega

/-- Column group at column `o` of the result. -/
abbrev outCols (o : ℕ) (inb : ∀ a : Fin 2, (![0, o] : Fin 2 → ℕ) a + S512x2048.size a ≤ S512x8192.size a) : Memref sig .tc .hbm S512x2048 .f32 :=
  (Memref.whole main_v1).slice (Rect.unit (s := S512x8192) ![0, o] S512x2048.size inb) (fun _ => rfl)

/-- An index lies in a column group exactly when its column does. -/
theorem mem_outCols {n : ℕ} (hn : n < 4) (i : S512x8192.Idx) : i ∈ (outCols (2048 * n) (inb_cols hn)).view.set ↔ (i 1).val / 2048 = n := by
  rw [show (outCols (2048 * n) (inb_cols hn)).view.set = _ from View.set_slice_whole main_v1 _]
  exact mem_cols rfl _ i

/-- Every index lies in one of the four groups. -/
theorem grp_of (i : S512x8192.Idx) : ∃ t : Fin 4, (i 1).val / 2048 = t.val :=
  ⟨grp (i 1), rfl⟩

/-- The result is its four column groups. -/
theorem out_cols (c : Dev nD) (f : Buf (Elt F) ((c : Thread nD τ).loc main_v1)) :
    (pts c (Memref.whole main_v1) fullShare f : sProp 𝕄)
      = iprop(pts c (outCols 0 inb_S512x8192_S512x2048_0_0) fullShare f ∗ pts c (outCols 2048 inb_S512x8192_S512x2048_0_2048) fullShare f
        ∗ pts c (outCols 4096 inb_S512x8192_S512x2048_0_4096) fullShare f ∗ pts c (outCols 6144 inb_S512x8192_S512x2048_0_6144) fullShare f) :=
  ((congrArg (fun S => ((c : Thread nD τ).loc main_v1 ↦[S]{fullShare} f : sProp 𝕄)) (View.set_whole main_v1)).trans
    (slots_eq (ℓ := (c : Thread nD τ).loc main_v1) (fun t : Fin 4 => (outCols (2048 * t.val) (inb_cols t.isLt)).view.set)
      (fun i : S512x8192.Idx => (i 1).val / 2048) (fun t => t.val) Fin.val_injective (fun t i => mem_outCols t.isLt i) grp_of fullShare f)).trans
    (bigSep_univ_eq_bigSepL [0, 1, 2, 3] (by decide) (by decide) _)

end Cert.AllToAll

end
-- ==== Proof.Body3.lean ====
/-
The accumulation: the thirty-two tiles, each met as it lands, and the copies of the finished column groups.
-/
module

public import proofs.«01_k».proof.Proof.Columns

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

attribute [local sl_rounds] duties_send duties_recv amount_send amount_recv expect_send expect_recv payload_recv payload_send1 payload_send2 payload_send3 payload_send4 payload_send5 payload_send6 payload_send7

set_option maxHeartbeats 4000000 in
set_option maxRecDepth 8192 in
/-- The accumulation, up to the waits for the last two column groups and for the departures. -/
def body3 (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fo : Buf (Elt F) ((c : Thread nD τ).loc main_v1))
    (g0 : Buf (Elt F) ((c : Thread nD τ).loc cc0_stg0_0)) (g1 : Buf (Elt F) ((c : Thread nD τ).loc cc0_stg1_0)) :
    Σ' (G : Prop), G → (body2 m κ c W f0 f1 f2 f3 f4 fo g0 g1).1 := by
  sl_stretch
  sl_resume
  ihave Hout := (Entails.of_eq (out_cols c fo)) $$ Hout
  icases Hout with ⟨V0, V1, V2, V3⟩
  set_option sl_exec.stopBefore "k0_part36" in sl_exec_parts
  sl_seam

end Cert.AllToAll

end
-- ==== Proof.Reads.lean ====
/-
What the loads of the accumulation read: a landed weight tile, a landed block, a column group of the accumulator.
-/
module

public import proofs.«01_k».proof.Proof.Columns
public import Idealize.ShloMosaic.Lib.Pipeline.Value

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- A load of weight slot `s`, after a tile landed there, is that tile. -/
theorem slot_read (s : ℕ) (inb : ∀ a : Fin 3, (![s, 0, 0] : Fin 3 → ℕ) a + S1x512x2048.size a ≤ S4x512x2048.size a)
    (f : (wbSlot s inb).view.ty.Contents (Elt F)) (Z : S512x2048.Idx → Elt F .f32) (L : List (View.Piece (Elt F) S512x2048 .f32)) :
    shapeCast S512x2048 (View.readAt (Elt F) wbM.view (Rect.unit (s := S4x512x2048) ![s, 0, 0] S1x512x2048.size inb).toLoadRect
      ((wbSlot s inb).view.writes (Elt F) f (⟨Rect.whole S512x2048, Z⟩ :: L))) shapeCasts_S1x512x2048_S512x2048 = Z := by
  funext x
  have h := View.read_writes_cons_emb (Val := Elt F) (wbSlot s inb).view f (Rect.whole S512x2048) Z L x
  rw [Rect.emb_whole_apply] at h
  exact h

/-- The tile of the weights a transfer reads. -/
theorem tile_eq (c : Dev nD) (d : ℕ) (hd : d < 8) (n : Fin 4) {off : Fin 2 → ℕ} (inb : ∀ a, off a + S512x2048.size a ≤ S4096x8192.size a) (h)
    (ho : off = ![512 * (((c.val + 8) - d) % 8), 2048 * n.val]) :
    ReadAs.same.apply (View.read (Elt F) ((Memref.whole main_arg1).slice (Rect.unit (s := S4096x8192) off S512x2048.size inb) h).view
      (m ((c : Thread nD τ).loc main_arg1))) = wTile m c d n := by
  subst ho
  funext x
  show (m ((c : Thread nD τ).loc main_arg1) : S4096x8192.Idx → Elt F .f32) ((Rect.unit (s := S4096x8192) _ S512x2048.size inb).emb x) = _
  refine congrArg (m ((c : Thread nD τ).loc main_arg1) : S4096x8192.Idx → Elt F .f32) ?_
  have hc : c.val < 8 := c.isLt
  funext a
  match a with
  | ⟨0, _⟩ =>
    apply Fin.ext
    show 512 * (((c.val + 8) - d) % 8) + 1 * (x 0).val = 512 * ((c.val + (8 - d)) % 8) + (x 0).val
    have e : (c.val + 8 - d) % 8 = (c.val + (8 - d)) % 8 := congrArg (· % 8) (by omega)
    omega
  | ⟨1, _⟩ =>
    apply Fin.ext
    show 2048 * n.val + 1 * (x 1).val = 2048 * n.val + (x 1).val
    rw [Nat.one_mul]

/-- A load of landing slot `d` is the block received from the device `d` places before. -/
theorem block_read (c : Dev nD) (d : ℕ) (inb : ∀ a : Fin 3, (![d, 0, 0] : Fin 3 → ℕ) a + S1x512x512.size a ≤ S8x512x512.size a) :
    shapeCast S512x512 (View.readAt (Elt F) cmM.view (Rect.unit (s := S8x512x512) ![d, 0, 0] S1x512x512.size inb).toLoadRect (cmF m c))
      shapeCasts_S1x512x512_S512x512 = blkA m c d := by
  funext x
  refine (shapeCast_dropUnit_apply ![512, 512] _ _ x).trans ?_
  show xq m (peer c (8 - (d + 1 * 0))) (blockIx c _ _) = xq m (peer c (8 - d)) (blockIx c (x 0) (x 1))
  congr 2
  · apply Fin.ext
    show 0 + 1 * (x 0).val = (x 0).val
    omega
  · apply Fin.ext
    show 0 + 1 * (x 1).val = (x 1).val
    omega

/-- The device's own block. -/
theorem own_eq (c : Dev nD) {off : Fin 3 → ℕ} (inb : ∀ a : Fin 3, off a + S1x512x512.size a ≤ S8x512x512.size a) (h) (ho : off = ![c.val, 0, 0]) :
    ReadAs.same.apply (View.read (Elt F) ((sbM.slice (Rect.unit (s := S8x512x512) off S1x512x512.size inb) h).squeeze S512x512
      squeezes_S1x512x512_S512x512).view (sbF m c)) = blkA m c 0 := by
  subst ho
  funext x
  refine (shapeCast_dropUnit_apply ![512, 512] (fun i => sbF m c ((Rect.unit (s := S8x512x512) ![c.val, 0, 0] S1x512x512.size inb).emb i)) shapeCasts_S1x512x512_S512x512 x).trans ?_
  show xq m c (blockIx _ _ _) = xq m (peer c 8) (blockIx c (x 0) (x 1))
  have hc : c.val < 8 := c.isLt
  rw [show peer c 8 = c from Fin.ext (by rw [peer_val]; omega)]
  congr 2
  · apply Fin.ext
    show 0 + 1 * (x 0).val = (x 0).val
    omega
  · apply Fin.ext
    show 0 + 1 * (x 1).val = (x 1).val
    omega

/-- Different column groups have no index in common. -/
theorem cols_disj {o p : ℕ} (inb : ∀ a, (![0, o] : Fin 2 → ℕ) a + S512x2048.size a ≤ S512x8192.size a)
    (inb' : ∀ a, (![0, p] : Fin 2 → ℕ) a + S512x2048.size a ≤ S512x8192.size a) (h : o + 2048 ≤ p ∨ p + 2048 ≤ o) :
    Disjoint (Rect.unit (s := S512x8192) ![0, o] S512x2048.size inb).set (Rect.unit (s := S512x8192) ![0, p] S512x2048.size inb').toLoadRect.set := by
  rw [Finset.disjoint_left]
  intro i hi hj
  replace hj : i ∈ (Rect.unit (s := S512x8192) ![0, p] S512x2048.size inb').set := hj
  rw [Rect.mem_set_unit] at hi hj
  have h1 : o ≤ (i 1).val ∧ (i 1).val < o + 2048 := hi 1
  have h2 : p ≤ (i 1).val ∧ (i 1).val < p + 2048 := hj 1
  omega

/-- A load of a column group of the accumulator, after the three other groups were stored since its own store, is what that
    store stored. -/
theorem acc_read {o o1 o2 o3 : ℕ} (inb : ∀ a, (![0, o] : Fin 2 → ℕ) a + S512x2048.size a ≤ S512x8192.size a)
    (inb1 : ∀ a, (![0, o1] : Fin 2 → ℕ) a + S512x2048.size a ≤ S512x8192.size a)
    (inb2 : ∀ a, (![0, o2] : Fin 2 → ℕ) a + S512x2048.size a ≤ S512x8192.size a)
    (inb3 : ∀ a, (![0, o3] : Fin 2 → ℕ) a + S512x2048.size a ≤ S512x8192.size a)
    (h1 : o1 + 2048 ≤ o ∨ o + 2048 ≤ o1) (h2 : o2 + 2048 ≤ o ∨ o + 2048 ≤ o2) (h3 : o3 + 2048 ≤ o ∨ o + 2048 ≤ o3)
    (Z Z1 Z2 Z3 : S512x2048.Idx → Elt F .f32) (L : List (View.Piece (Elt F) S512x8192 .f32)) :
    obM.view.readCov (⟨Rect.unit (s := S512x8192) ![0, o1] S512x2048.size inb1, Z1⟩ :: ⟨Rect.unit (s := S512x8192) ![0, o2] S512x2048.size inb2, Z2⟩
      :: ⟨Rect.unit (s := S512x8192) ![0, o3] S512x2048.size inb3, Z3⟩ :: ⟨Rect.unit (s := S512x8192) ![0, o] S512x2048.size inb, Z⟩ :: L)
      (Rect.unit (s := S512x8192) ![0, o] S512x2048.size inb).toLoadRect = Z := by
  refine (View.readCov_cons_of_disjoint obM.view _ _ _ ?_).trans ?_
  · exact cols_disj inb1 inb h1
  refine (View.readCov_cons_of_disjoint obM.view _ _ _ ?_).trans ?_
  · exact cols_disj inb2 inb h2
  refine (View.readCov_cons_of_disjoint obM.view _ _ _ ?_).trans ?_
  · exact cols_disj inb3 inb h3
  exact View.readCov_cons_toLoadRect (Val := Elt F) obM.view (Rect.unit (s := S512x8192) ![0, o] S512x2048.size inb) Z L

/-- The copy of a column group, after its store, reads what was stored. -/
theorem copy_read {o : ℕ} (inb : ∀ a, (![0, o] : Fin 2 → ℕ) a + S512x2048.size a ≤ S512x8192.size a) (h)
    (f : obM.view.ty.Contents (Elt F)) (Z : S512x2048.Idx → Elt F .f32) (L : List (View.Piece (Elt F) S512x8192 .f32)) :
    ReadAs.same.apply (View.read (Elt F) (obM.slice (Rect.unit (s := S512x8192) ![0, o] S512x2048.size inb) h).view
      (obM.view.writes (Elt F) f (⟨Rect.unit (s := S512x8192) ![0, o] S512x2048.size inb, Z⟩ :: L))) = Z :=
  funext fun x => View.read_writes_cons_emb (Val := Elt F) obM.view f (Rect.unit (s := S512x8192) ![0, o] S512x2048.size inb) Z L x

/-- One more product. -/
theorem step {c : Dev nD} {d : ℕ} {n : Fin 4} {A : FVec F S512x512 .fp8e5m2} {w a : FVec F S512x2048 .f32} (hA : A = blkA m c (d + 1))
    (hw : w = wTile m c (d + 1) n) (ha : a = accN m c n d) :
    addf a (matmul dot_S512x512_S512x2048_S512x2048_1_0_0_1_n_n none A (truncf .fp8e5m2 w bitsLt_fp8e5m2_f32)
      (constant S512x2048 .f32 0x00000000#32)) = accN m c n (d + 1) := by
  subst hA hw ha
  rfl

/-- The first product, where nothing has been added yet. -/
theorem first {c : Dev nD} {n : Fin 4} {A : FVec F S512x512 .fp8e5m2} {w : FVec F S512x2048 .f32} (hA : A = blkA m c 0)
    (hw : w = wTile m c 0 n) :
    matmul dot_S512x512_S512x2048_S512x2048_1_0_0_1_n_n none A (truncf .fp8e5m2 w bitsLt_fp8e5m2_f32)
      (constant S512x2048 .f32 0x00000000#32) = accN m c n 0 := by
  subst hA hw
  rfl

end Cert.AllToAll

end
-- ==== Proof.Values.lean ====
/-
The values of the accumulation: what every load of it reads, and what is copied out.
-/
module

public import proofs.«01_k».proof.Proof.Body3
public import proofs.«01_k».proof.Proof.Reads

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- The block a device keeps for itself, once copied. -/
theorem block_landed (c : Dev nD) (inb : ∀ a : Fin 3, (![0, 0, 0] : Fin 3 → ℕ) a + S1x512x512.size a ≤ S8x512x512.size a)
    (h8 : 0 < 8) (f : (cmSlot 0 h8).view.ty.Contents (Elt F)) (Z : S512x512.Idx → Elt F .fp8e5m2) (L : List (View.Piece (Elt F) S512x512 .fp8e5m2))
    (hZ : Z = blkA m c 0) :
    shapeCast S512x512 (View.readAt (Elt F) cmM.view (Rect.unit (s := S8x512x512) ![0, 0, 0] S1x512x512.size inb).toLoadRect
      ((cmSlot 0 h8).view.writes (Elt F) f (⟨Rect.whole S512x512, Z⟩ :: L))) shapeCasts_S1x512x512_S512x512 = blkA m c 0 := by
  rw [← hZ]
  funext x
  have h := View.read_writes_cons_emb (Val := Elt F) (cmSlot 0 h8).view f (Rect.whole S512x512) Z L x
  rw [Rect.emb_whole_apply] at h
  exact h

/-- The scale. -/
theorem scale_eq (c : Dev nD) (g0 : Buf (Elt F) ((c : Thread nD τ).loc cc0_stg0_0)) (g1 : Buf (Elt F) ((c : Thread nD τ).loc cc0_stg1_0)) :
    body2.sl.r_2 c g0 g1 = scale c g0 g1 :=
  congrArg₂ Scalar.mulf
    (congrArg (g0 : S1.Idx → Elt F .f32) (funext fun a => match a with | ⟨0, _⟩ => Subsingleton.elim (α := Fin 1) _ _))
    (congrArg (g1 : S1.Idx → Elt F .f32) (funext fun a => match a with | ⟨0, _⟩ => Subsingleton.elim (α := Fin 1) _ _))

/-! ## The blocks -/

theorem blk_0 (c : Dev nD) : body2.sl.r_3 m c = blkA m c 0 :=
  block_landed m c _ _ _ _ _ (own_eq m c _ _ (k0_off4_eq c))

theorem blk_1 (c : Dev nD) : body3.sl.r m c = blkA m c 1 := block_read m c 1 _

theorem blk_2 (c : Dev nD) : body3.sl.r_2 m c = blkA m c 2 := block_read m c 2 _

theorem blk_3 (c : Dev nD) : body3.sl.r_4 m c = blkA m c 3 := block_read m c 3 _

theorem blk_4 (c : Dev nD) : body3.sl.r_6 m c = blkA m c 4 := block_read m c 4 _

theorem blk_5 (c : Dev nD) : body3.sl.r_8 m c = blkA m c 5 := block_read m c 5 _

theorem blk_6 (c : Dev nD) : body3.sl.r_10 m c = blkA m c 6 := block_read m c 6 _

theorem blk_7 (c : Dev nD) : body3.sl.r_12 m c = blkA m c 7 := block_read m c 7 _

/-! ## The weight tiles -/

theorem wt_0_0 (c : Dev nD) : shapeCast S512x2048 (body3.sl.v223 m c) shapeCasts_S1x512x2048_S512x2048 = wTile m c 0 0 :=
  (slot_read 0 inb_S4x512x2048_S1x512x2048_0_0_0 _ _ _).trans (tile_eq m c 0 (by decide) 0 _ _ (k0_off1_eq c 0))

theorem wt_0_1 (c : Dev nD) : shapeCast S512x2048 (body3.sl.v242 m c) shapeCasts_S1x512x2048_S512x2048 = wTile m c 0 1 :=
  (slot_read 1 inb_S4x512x2048_S1x512x2048_1_0_0 _ _ _).trans (tile_eq m c 0 (by decide) 1 _ _ (k0_off2_eq c 0))

theorem wt_0_2 (c : Dev nD) : shapeCast S512x2048 (body3.sl.v261 m c) shapeCasts_S1x512x2048_S512x2048 = wTile m c 0 2 :=
  (slot_read 2 inb_S4x512x2048_S1x512x2048_2_0_0 _ _ _).trans (tile_eq m c 0 (by decide) 2 _ _ (k0_off3_eq c 0))

theorem wt_0_3 (c : Dev nD) : shapeCast S512x2048 (body3.sl.v280 m c) shapeCasts_S1x512x2048_S512x2048 = wTile m c 0 3 :=
  (slot_read 3 inb_S4x512x2048_S1x512x2048_3_0_0 _ _ _).trans (tile_eq m c 0 (by decide) 3 _ _ (k0_off6_eq c 0))

theorem wt_1_0 (c : Dev nD) : shapeCast S512x2048 (body3.sl.v309 m c) shapeCasts_S1x512x2048_S512x2048 = wTile m c 1 0 :=
  (slot_read 0 inb_S4x512x2048_S1x512x2048_0_0_0 _ _ _).trans (tile_eq m c 1 (by decide) 0 _ _ (k0_off1_eq c 1))

theorem wt_1_1 (c : Dev nD) : shapeCast S512x2048 (body3.sl.v330 m c) shapeCasts_S1x512x2048_S512x2048 = wTile m c 1 1 :=
  (slot_read 1 inb_S4x512x2048_S1x512x2048_1_0_0 _ _ _).trans (tile_eq m c 1 (by decide) 1 _ _ (k0_off2_eq c 1))

theorem wt_1_2 (c : Dev nD) : shapeCast S512x2048 (body3.sl.v351 m c) shapeCasts_S1x512x2048_S512x2048 = wTile m c 1 2 :=
  (slot_read 2 inb_S4x512x2048_S1x512x2048_2_0_0 _ _ _).trans (tile_eq m c 1 (by decide) 2 _ _ (k0_off3_eq c 1))

theorem wt_1_3 (c : Dev nD) : shapeCast S512x2048 (body3.sl.v372 m c) shapeCasts_S1x512x2048_S512x2048 = wTile m c 1 3 :=
  (slot_read 3 inb_S4x512x2048_S1x512x2048_3_0_0 _ _ _).trans (tile_eq m c 1 (by decide) 3 _ _ (k0_off6_eq c 1))

theorem wt_2_0 (c : Dev nD) : shapeCast S512x2048 (body3.sl.v403 m c) shapeCasts_S1x512x2048_S512x2048 = wTile m c 2 0 :=
  (slot_read 0 inb_S4x512x2048_S1x512x2048_0_0_0 _ _ _).trans (tile_eq m c 2 (by decide) 0 _ _ (k0_off1_eq c 2))

theorem wt_2_1 (c : Dev nD) : shapeCast S512x2048 (body3.sl.v424 m c) shapeCasts_S1x512x2048_S512x2048 = wTile m c 2 1 :=
  (slot_read 1 inb_S4x512x2048_S1x512x2048_1_0_0 _ _ _).trans (tile_eq m c 2 (by decide) 1 _ _ (k0_off2_eq c 2))

theorem wt_2_2 (c : Dev nD) : shapeCast S512x2048 (body3.sl.v445 m c) shapeCasts_S1x512x2048_S512x2048 = wTile m c 2 2 :=
  (slot_read 2 inb_S4x512x2048_S1x512x2048_2_0_0 _ _ _).trans (tile_eq m c 2 (by decide) 2 _ _ (k0_off3_eq c 2))

theorem wt_2_3 (c : Dev nD) : shapeCast S512x2048 (body3.sl.v466 m c) shapeCasts_S1x512x2048_S512x2048 = wTile m c 2 3 :=
  (slot_read 3 inb_S4x512x2048_S1x512x2048_3_0_0 _ _ _).trans (tile_eq m c 2 (by decide) 3 _ _ (k0_off6_eq c 2))

theorem wt_3_0 (c : Dev nD) : shapeCast S512x2048 (body3.sl.v497 m c) shapeCasts_S1x512x2048_S512x2048 = wTile m c 3 0 :=
  (slot_read 0 inb_S4x512x2048_S1x512x2048_0_0_0 _ _ _).trans (tile_eq m c 3 (by decide) 0 _ _ (k0_off1_eq c 3))

theorem wt_3_1 (c : Dev nD) : shapeCast S512x2048 (body3.sl.v518 m c) shapeCasts_S1x512x2048_S512x2048 = wTile m c 3 1 :=
  (slot_read 1 inb_S4x512x2048_S1x512x2048_1_0_0 _ _ _).trans (tile_eq m c 3 (by decide) 1 _ _ (k0_off2_eq c 3))

theorem wt_3_2 (c : Dev nD) : shapeCast S512x2048 (body3.sl.v539 m c) shapeCasts_S1x512x2048_S512x2048 = wTile m c 3 2 :=
  (slot_read 2 inb_S4x512x2048_S1x512x2048_2_0_0 _ _ _).trans (tile_eq m c 3 (by decide) 2 _ _ (k0_off3_eq c 3))

theorem wt_3_3 (c : Dev nD) : shapeCast S512x2048 (body3.sl.v560 m c) shapeCasts_S1x512x2048_S512x2048 = wTile m c 3 3 :=
  (slot_read 3 inb_S4x512x2048_S1x512x2048_3_0_0 _ _ _).trans (tile_eq m c 3 (by decide) 3 _ _ (k0_off6_eq c 3))

theorem wt_4_0 (c : Dev nD) : shapeCast S512x2048 (body3.sl.v591 m c) shapeCasts_S1x512x2048_S512x2048 = wTile m c 4 0 :=
  (slot_read 0 inb_S4x512x2048_S1x512x2048_0_0_0 _ _ _).trans (tile_eq m c 4 (by decide) 0 _ _ (k0_off1_eq c 4))

theorem wt_4_1 (c : Dev nD) : shapeCast S512x2048 (body3.sl.v612 m c) shapeCasts_S1x512x2048_S512x2048 = wTile m c 4 1 :=
  (slot_read 1 inb_S4x512x2048_S1x512x2048_1_0_0 _ _ _).trans (tile_eq m c 4 (by decide) 1 _ _ (k0_off2_eq c 4))

theorem wt_4_2 (c : Dev nD) : shapeCast S512x2048 (body3.sl.v633 m c) shapeCasts_S1x512x2048_S512x2048 = wTile m c 4 2 :=
  (slot_read 2 inb_S4x512x2048_S1x512x2048_2_0_0 _ _ _).trans (tile_eq m c 4 (by decide) 2 _ _ (k0_off3_eq c 4))

theorem wt_4_3 (c : Dev nD) : shapeCast S512x2048 (body3.sl.v654 m c) shapeCasts_S1x512x2048_S512x2048 = wTile m c 4 3 :=
  (slot_read 3 inb_S4x512x2048_S1x512x2048_3_0_0 _ _ _).trans (tile_eq m c 4 (by decide) 3 _ _ (k0_off6_eq c 4))

theorem wt_5_0 (c : Dev nD) : shapeCast S512x2048 (body3.sl.v685 m c) shapeCasts_S1x512x2048_S512x2048 = wTile m c 5 0 :=
  (slot_read 0 inb_S4x512x2048_S1x512x2048_0_0_0 _ _ _).trans (tile_eq m c 5 (by decide) 0 _ _ (k0_off1_eq c 5))

theorem wt_5_1 (c : Dev nD) : shapeCast S512x2048 (body3.sl.v706 m c) shapeCasts_S1x512x2048_S512x2048 = wTile m c 5 1 :=
  (slot_read 1 inb_S4x512x2048_S1x512x2048_1_0_0 _ _ _).trans (tile_eq m c 5 (by decide) 1 _ _ (k0_off2_eq c 5))

theorem wt_5_2 (c : Dev nD) : shapeCast S512x2048 (body3.sl.v727 m c) shapeCasts_S1x512x2048_S512x2048 = wTile m c 5 2 :=
  (slot_read 2 inb_S4x512x2048_S1x512x2048_2_0_0 _ _ _).trans (tile_eq m c 5 (by decide) 2 _ _ (k0_off3_eq c 5))

theorem wt_5_3 (c : Dev nD) : shapeCast S512x2048 (body3.sl.v748 m c) shapeCasts_S1x512x2048_S512x2048 = wTile m c 5 3 :=
  (slot_read 3 inb_S4x512x2048_S1x512x2048_3_0_0 _ _ _).trans (tile_eq m c 5 (by decide) 3 _ _ (k0_off6_eq c 5))

theorem wt_6_0 (c : Dev nD) : shapeCast S512x2048 (body3.sl.v779 m c) shapeCasts_S1x512x2048_S512x2048 = wTile m c 6 0 :=
  (slot_read 0 inb_S4x512x2048_S1x512x2048_0_0_0 _ _ _).trans (tile_eq m c 6 (by decide) 0 _ _ (k0_off1_eq c 6))

theorem wt_6_1 (c : Dev nD) : shapeCast S512x2048 (body3.sl.v800 m c) shapeCasts_S1x512x2048_S512x2048 = wTile m c 6 1 :=
  (slot_read 1 inb_S4x512x2048_S1x512x2048_1_0_0 _ _ _).trans (tile_eq m c 6 (by decide) 1 _ _ (k0_off2_eq c 6))

theorem wt_6_2 (c : Dev nD) : shapeCast S512x2048 (body3.sl.v821 m c) shapeCasts_S1x512x2048_S512x2048 = wTile m c 6 2 :=
  (slot_read 2 inb_S4x512x2048_S1x512x2048_2_0_0 _ _ _).trans (tile_eq m c 6 (by decide) 2 _ _ (k0_off3_eq c 6))

theorem wt_6_3 (c : Dev nD) : shapeCast S512x2048 (body3.sl.v842 m c) shapeCasts_S1x512x2048_S512x2048 = wTile m c 6 3 :=
  (slot_read 3 inb_S4x512x2048_S1x512x2048_3_0_0 _ _ _).trans (tile_eq m c 6 (by decide) 3 _ _ (k0_off6_eq c 6))

theorem wt_7_0 (c : Dev nD) : shapeCast S512x2048 (body3.sl.v873 m c) shapeCasts_S1x512x2048_S512x2048 = wTile m c 7 0 :=
  (slot_read 0 inb_S4x512x2048_S1x512x2048_0_0_0 _ _ _).trans (tile_eq m c 7 (by decide) 0 _ _ (k0_off1_eq c 7))

theorem wt_7_1 (c : Dev nD) : shapeCast S512x2048 (body3.sl.v904 m c) shapeCasts_S1x512x2048_S512x2048 = wTile m c 7 1 :=
  (slot_read 1 inb_S4x512x2048_S1x512x2048_1_0_0 _ _ _).trans (tile_eq m c 7 (by decide) 1 _ _ (k0_off2_eq c 7))

theorem wt_7_2 (c : Dev nD) : shapeCast S512x2048 (body3.sl.v935 m c) shapeCasts_S1x512x2048_S512x2048 = wTile m c 7 2 :=
  (slot_read 2 inb_S4x512x2048_S1x512x2048_2_0_0 _ _ _).trans (tile_eq m c 7 (by decide) 2 _ _ (k0_off3_eq c 7))

theorem wt_7_3 (c : Dev nD) : shapeCast S512x2048 (body3.sl.v966 m c) shapeCasts_S1x512x2048_S512x2048 = wTile m c 7 3 :=
  (slot_read 3 inb_S4x512x2048_S1x512x2048_3_0_0 _ _ _).trans (tile_eq m c 7 (by decide) 3 _ _ (k0_off6_eq c 7))

/-! ## The sums -/

theorem ld_1_0 (c : Dev nD) : body3.sl.v313 m c = accN m c 0 0 := by
  refine Eq.trans (acc_read (o := 0) (o1 := 6144) (o2 := 4096) (o3 := 2048) _ _ _ _ (by decide) (by decide) (by decide) _ _ _ _ _) ?_
  exact (shapeCast_self _ _).trans (first m (blk_0 m c) (wt_0_0 m c))

theorem ld_1_1 (c : Dev nD) : body3.sl.v334 m c = accN m c 1 0 := by
  refine Eq.trans (acc_read (o := 2048) (o1 := 0) (o2 := 6144) (o3 := 4096) _ _ _ _ (by decide) (by decide) (by decide) _ _ _ _ _) ?_
  exact (shapeCast_self _ _).trans (first m (blk_0 m c) (wt_0_1 m c))

theorem ld_1_2 (c : Dev nD) : body3.sl.v355 m c = accN m c 2 0 := by
  refine Eq.trans (acc_read (o := 4096) (o1 := 2048) (o2 := 0) (o3 := 6144) _ _ _ _ (by decide) (by decide) (by decide) _ _ _ _ _) ?_
  exact (shapeCast_self _ _).trans (first m (blk_0 m c) (wt_0_2 m c))

theorem ld_1_3 (c : Dev nD) : body3.sl.v376 m c = accN m c 3 0 := by
  refine Eq.trans (acc_read (o := 6144) (o1 := 4096) (o2 := 2048) (o3 := 0) _ _ _ _ (by decide) (by decide) (by decide) _ _ _ _ _) ?_
  exact (shapeCast_self _ _).trans (first m (blk_0 m c) (wt_0_3 m c))

theorem ld_2_0 (c : Dev nD) : body3.sl.v407 m c = accN m c 0 1 := by
  refine Eq.trans (acc_read (o := 0) (o1 := 6144) (o2 := 4096) (o3 := 2048) _ _ _ _ (by decide) (by decide) (by decide) _ _ _ _ _) ?_
  exact (shapeCast_self _ _).trans (step m (blk_1 m c) (wt_1_0 m c) (ld_1_0 m c))

theorem ld_2_1 (c : Dev nD) : body3.sl.v428 m c = accN m c 1 1 := by
  refine Eq.trans (acc_read (o := 2048) (o1 := 0) (o2 := 6144) (o3 := 4096) _ _ _ _ (by decide) (by decide) (by decide) _ _ _ _ _) ?_
  exact (shapeCast_self _ _).trans (step m (blk_1 m c) (wt_1_1 m c) (ld_1_1 m c))

theorem ld_2_2 (c : Dev nD) : body3.sl.v449 m c = accN m c 2 1 := by
  refine Eq.trans (acc_read (o := 4096) (o1 := 2048) (o2 := 0) (o3 := 6144) _ _ _ _ (by decide) (by decide) (by decide) _ _ _ _ _) ?_
  exact (shapeCast_self _ _).trans (step m (blk_1 m c) (wt_1_2 m c) (ld_1_2 m c))

theorem ld_2_3 (c : Dev nD) : body3.sl.v470 m c = accN m c 3 1 := by
  refine Eq.trans (acc_read (o := 6144) (o1 := 4096) (o2 := 2048) (o3 := 0) _ _ _ _ (by decide) (by decide) (by decide) _ _ _ _ _) ?_
  exact (shapeCast_self _ _).trans (step m (blk_1 m c) (wt_1_3 m c) (ld_1_3 m c))

theorem ld_3_0 (c : Dev nD) : body3.sl.v501 m c = accN m c 0 2 := by
  refine Eq.trans (acc_read (o := 0) (o1 := 6144) (o2 := 4096) (o3 := 2048) _ _ _ _ (by decide) (by decide) (by decide) _ _ _ _ _) ?_
  exact (shapeCast_self _ _).trans (step m (blk_2 m c) (wt_2_0 m c) (ld_2_0 m c))

theorem ld_3_1 (c : Dev nD) : body3.sl.v522 m c = accN m c 1 2 := by
  refine Eq.trans (acc_read (o := 2048) (o1 := 0) (o2 := 6144) (o3 := 4096) _ _ _ _ (by decide) (by decide) (by decide) _ _ _ _ _) ?_
  exact (shapeCast_self _ _).trans (step m (blk_2 m c) (wt_2_1 m c) (ld_2_1 m c))

theorem ld_3_2 (c : Dev nD) : body3.sl.v543 m c = accN m c 2 2 := by
  refine Eq.trans (acc_read (o := 4096) (o1 := 2048) (o2 := 0) (o3 := 6144) _ _ _ _ (by decide) (by decide) (by decide) _ _ _ _ _) ?_
  exact (shapeCast_self _ _).trans (step m (blk_2 m c) (wt_2_2 m c) (ld_2_2 m c))

theorem ld_3_3 (c : Dev nD) : body3.sl.v564 m c = accN m c 3 2 := by
  refine Eq.trans (acc_read (o := 6144) (o1 := 4096) (o2 := 2048) (o3 := 0) _ _ _ _ (by decide) (by decide) (by decide) _ _ _ _ _) ?_
  exact (shapeCast_self _ _).trans (step m (blk_2 m c) (wt_2_3 m c) (ld_2_3 m c))

theorem ld_4_0 (c : Dev nD) : body3.sl.v595 m c = accN m c 0 3 := by
  refine Eq.trans (acc_read (o := 0) (o1 := 6144) (o2 := 4096) (o3 := 2048) _ _ _ _ (by decide) (by decide) (by decide) _ _ _ _ _) ?_
  exact (shapeCast_self _ _).trans (step m (blk_3 m c) (wt_3_0 m c) (ld_3_0 m c))

theorem ld_4_1 (c : Dev nD) : body3.sl.v616 m c = accN m c 1 3 := by
  refine Eq.trans (acc_read (o := 2048) (o1 := 0) (o2 := 6144) (o3 := 4096) _ _ _ _ (by decide) (by decide) (by decide) _ _ _ _ _) ?_
  exact (shapeCast_self _ _).trans (step m (blk_3 m c) (wt_3_1 m c) (ld_3_1 m c))

theorem ld_4_2 (c : Dev nD) : body3.sl.v637 m c = accN m c 2 3 := by
  refine Eq.trans (acc_read (o := 4096) (o1 := 2048) (o2 := 0) (o3 := 6144) _ _ _ _ (by decide) (by decide) (by decide) _ _ _ _ _) ?_
  exact (shapeCast_self _ _).trans (step m (blk_3 m c) (wt_3_2 m c) (ld_3_2 m c))

theorem ld_4_3 (c : Dev nD) : body3.sl.v658 m c = accN m c 3 3 := by
  refine Eq.trans (acc_read (o := 6144) (o1 := 4096) (o2 := 2048) (o3 := 0) _ _ _ _ (by decide) (by decide) (by decide) _ _ _ _ _) ?_
  exact (shapeCast_self _ _).trans (step m (blk_3 m c) (wt_3_3 m c) (ld_3_3 m c))

theorem ld_5_0 (c : Dev nD) : body3.sl.v689 m c = accN m c 0 4 := by
  refine Eq.trans (acc_read (o := 0) (o1 := 6144) (o2 := 4096) (o3 := 2048) _ _ _ _ (by decide) (by decide) (by decide) _ _ _ _ _) ?_
  exact (shapeCast_self _ _).trans (step m (blk_4 m c) (wt_4_0 m c) (ld_4_0 m c))

theorem ld_5_1 (c : Dev nD) : body3.sl.v710 m c = accN m c 1 4 := by
  refine Eq.trans (acc_read (o := 2048) (o1 := 0) (o2 := 6144) (o3 := 4096) _ _ _ _ (by decide) (by decide) (by decide) _ _ _ _ _) ?_
  exact (shapeCast_self _ _).trans (step m (blk_4 m c) (wt_4_1 m c) (ld_4_1 m c))

theorem ld_5_2 (c : Dev nD) : body3.sl.v731 m c = accN m c 2 4 := by
  refine Eq.trans (acc_read (o := 4096) (o1 := 2048) (o2 := 0) (o3 := 6144) _ _ _ _ (by decide) (by decide) (by decide) _ _ _ _ _) ?_
  exact (shapeCast_self _ _).trans (step m (blk_4 m c) (wt_4_2 m c) (ld_4_2 m c))

theorem ld_5_3 (c : Dev nD) : body3.sl.v752 m c = accN m c 3 4 := by
  refine Eq.trans (acc_read (o := 6144) (o1 := 4096) (o2 := 2048) (o3 := 0) _ _ _ _ (by decide) (by decide) (by decide) _ _ _ _ _) ?_
  exact (shapeCast_self _ _).trans (step m (blk_4 m c) (wt_4_3 m c) (ld_4_3 m c))

theorem ld_6_0 (c : Dev nD) : body3.sl.v783 m c = accN m c 0 5 := by
  refine Eq.trans (acc_read (o := 0) (o1 := 6144) (o2 := 4096) (o3 := 2048) _ _ _ _ (by decide) (by decide) (by decide) _ _ _ _ _) ?_
  exact (shapeCast_self _ _).trans (step m (blk_5 m c) (wt_5_0 m c) (ld_5_0 m c))

theorem ld_6_1 (c : Dev nD) : body3.sl.v804 m c = accN m c 1 5 := by
  refine Eq.trans (acc_read (o := 2048) (o1 := 0) (o2 := 6144) (o3 := 4096) _ _ _ _ (by decide) (by decide) (by decide) _ _ _ _ _) ?_
  exact (shapeCast_self _ _).trans (step m (blk_5 m c) (wt_5_1 m c) (ld_5_1 m c))

theorem ld_6_2 (c : Dev nD) : body3.sl.v825 m c = accN m c 2 5 := by
  refine Eq.trans (acc_read (o := 4096) (o1 := 2048) (o2 := 0) (o3 := 6144) _ _ _ _ (by decide) (by decide) (by decide) _ _ _ _ _) ?_
  exact (shapeCast_self _ _).trans (step m (blk_5 m c) (wt_5_2 m c) (ld_5_2 m c))

theorem ld_6_3 (c : Dev nD) : body3.sl.v846 m c = accN m c 3 5 := by
  refine Eq.trans (acc_read (o := 6144) (o1 := 4096) (o2 := 2048) (o3 := 0) _ _ _ _ (by decide) (by decide) (by decide) _ _ _ _ _) ?_
  exact (shapeCast_self _ _).trans (step m (blk_5 m c) (wt_5_3 m c) (ld_5_3 m c))

theorem ld_7_0 (c : Dev nD) : body3.sl.v877 m c = accN m c 0 6 := by
  refine Eq.trans (acc_read (o := 0) (o1 := 6144) (o2 := 4096) (o3 := 2048) _ _ _ _ (by decide) (by decide) (by decide) _ _ _ _ _) ?_
  exact (shapeCast_self _ _).trans (step m (blk_6 m c) (wt_6_0 m c) (ld_6_0 m c))

theorem ld_7_1 (c : Dev nD) (g0 : Buf (Elt F) ((c : Thread nD τ).loc cc0_stg0_0)) (g1 : Buf (Elt F) ((c : Thread nD τ).loc cc0_stg1_0)) : body3.sl.v908 m c g0 g1 = accN m c 1 6 := by
  refine Eq.trans (acc_read (o := 2048) (o1 := 0) (o2 := 6144) (o3 := 4096) _ _ _ _ (by decide) (by decide) (by decide) _ _ _ _ _) ?_
  exact (shapeCast_self _ _).trans (step m (blk_6 m c) (wt_6_1 m c) (ld_6_1 m c))

theorem ld_7_2 (c : Dev nD) (g0 : Buf (Elt F) ((c : Thread nD τ).loc cc0_stg0_0)) (g1 : Buf (Elt F) ((c : Thread nD τ).loc cc0_stg1_0)) : body3.sl.v939 m c g0 g1 = accN m c 2 6 := by
  refine Eq.trans (acc_read (o := 4096) (o1 := 2048) (o2 := 0) (o3 := 6144) _ _ _ _ (by decide) (by decide) (by decide) _ _ _ _ _) ?_
  exact (shapeCast_self _ _).trans (step m (blk_6 m c) (wt_6_2 m c) (ld_6_2 m c))

theorem ld_7_3 (c : Dev nD) (g0 : Buf (Elt F) ((c : Thread nD τ).loc cc0_stg0_0)) (g1 : Buf (Elt F) ((c : Thread nD τ).loc cc0_stg1_0)) : body3.sl.v970 m c g0 g1 = accN m c 3 6 := by
  refine Eq.trans (acc_read (o := 6144) (o1 := 4096) (o2 := 2048) (o3 := 0) _ _ _ _ (by decide) (by decide) (by decide) _ _ _ _ _) ?_
  exact (shapeCast_self _ _).trans (step m (blk_6 m c) (wt_6_3 m c) (ld_6_3 m c))

/-! ## The result -/

theorem cp_0 (c : Dev nD) (f3 : Buf (Elt F) ((c : Thread nD τ).loc cc0_scratch3))
    (g0 : Buf (Elt F) ((c : Thread nD τ).loc cc0_stg0_0)) (g1 : Buf (Elt F) ((c : Thread nD τ).loc cc0_stg1_0)) :
    body3.sl.dma119 m c f3 g0 g1 = act (scale c g0 g1) (accN m c 0 7) := by
  unfold body3.sl.dma119 body3.sl.Hob_29
  refine Eq.trans (copy_read _ _ _ _ _) ?_
  refine (shapeCast_self _ _).trans ?_
  exact congrArg₂ act (scale_eq c g0 g1) (step m (blk_7 m c) (wt_7_0 m c) (ld_7_0 m c))

theorem cp_1 (c : Dev nD) (f3 : Buf (Elt F) ((c : Thread nD τ).loc cc0_scratch3))
    (g0 : Buf (Elt F) ((c : Thread nD τ).loc cc0_stg0_0)) (g1 : Buf (Elt F) ((c : Thread nD τ).loc cc0_stg1_0)) :
    body3.sl.dma123 m c f3 g0 g1 = act (scale c g0 g1) (accN m c 1 7) := by
  unfold body3.sl.dma123 body3.sl.Hob_30
  refine Eq.trans (copy_read _ _ _ _ _) ?_
  refine (shapeCast_self _ _).trans ?_
  exact congrArg₂ act (scale_eq c g0 g1) (step m (blk_7 m c) (wt_7_1 m c) (ld_7_1 m c g0 g1))

theorem cp_2 (c : Dev nD) (f3 : Buf (Elt F) ((c : Thread nD τ).loc cc0_scratch3))
    (g0 : Buf (Elt F) ((c : Thread nD τ).loc cc0_stg0_0)) (g1 : Buf (Elt F) ((c : Thread nD τ).loc cc0_stg1_0)) :
    body3.sl.dma127 m c f3 g0 g1 = act (scale c g0 g1) (accN m c 2 7) := by
  unfold body3.sl.dma127 body3.sl.Hob_31
  refine Eq.trans (copy_read _ _ _ _ _) ?_
  refine (shapeCast_self _ _).trans ?_
  exact congrArg₂ act (scale_eq c g0 g1) (step m (blk_7 m c) (wt_7_2 m c) (ld_7_2 m c g0 g1))

theorem cp_3 (c : Dev nD) (f3 : Buf (Elt F) ((c : Thread nD τ).loc cc0_scratch3))
    (g0 : Buf (Elt F) ((c : Thread nD τ).loc cc0_stg0_0)) (g1 : Buf (Elt F) ((c : Thread nD τ).loc cc0_stg1_0)) :
    body3.sl.dma131 m c f3 g0 g1 = act (scale c g0 g1) (accN m c 3 7) := by
  unfold body3.sl.dma131 body3.sl.Hob_32
  refine Eq.trans (copy_read _ _ _ _ _) ?_
  refine (shapeCast_self _ _).trans ?_
  exact congrArg₂ act (scale_eq c g0 g1) (step m (blk_7 m c) (wt_7_3 m c) (ld_7_3 m c g0 g1))

end Cert.AllToAll

end
-- ==== Proof.Body4.lean ====
/-
The body's run, put together: from what is held to what is left.
-/
module

public import proofs.«01_k».proof.Proof.Values
public import proofs.«01_k».proof.Proof.Body3

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- The place of an element of a column group. -/
theorem outCols_emb (n : Fin 4) (inb : ∀ a : Fin 2, (![0, 2048 * n.val] : Fin 2 → ℕ) a + S512x2048.size a ≤ S512x8192.size a) (y : S512x2048.Idx) :
    ∀ i : S512x8192.Idx, i = (Rect.unit (s := S512x8192) ![0, 2048 * n.val] S512x2048.size inb).emb y →
      grp (i 1) = n ∧ tileIx (i 0) (plc (i 1)) = y := by
  intro i hi
  have hn : n.val < 4 := n.isLt
  have h1 : (y 1).val < 2048 := (y 1).isLt
  have e0 : (i 0).val = 0 + 1 * (y 0).val := congrArg Fin.val (congrFun hi 0)
  have e1 : (i 1).val = 2048 * n.val + 1 * (y 1).val := congrArg Fin.val (congrFun hi 1)
  constructor
  · apply Fin.ext
    show (i 1).val / 2048 = n.val
    omega
  · funext a
    match a with
    | ⟨0, _⟩ => apply Fin.ext; show (i 0).val = (y 0).val; omega
    | ⟨1, _⟩ => apply Fin.ext; show (i 1).val % 2048 = (y 1).val; omega

/-- The result to be computed, at an element of a column group. -/
theorem outF_at (c : Dev nD) (s : F .f32) (n : Fin 4) (i : S512x8192.Idx) (y : S512x2048.Idx) (h : grp (i 1) = n ∧ tileIx (i 0) (plc (i 1)) = y) :
    (outF m c s : S512x8192.Idx → Elt F .f32) i = act s (accN m c n 7) y := by
  show act s (accN m c (grp (i 1)) 7) (tileIx (i 0) (plc (i 1))) = _
  rw [h.1, h.2]

/-- A column group of the result, after its copy, is that of the result to be computed. -/
theorem out_group (c : Dev nD) (s : F .f32) (n : Fin 4) {o : ℕ} (ho : o = 2048 * n.val)
    (inb : ∀ a : Fin 2, (![0, o] : Fin 2 → ℕ) a + S512x2048.size a ≤ S512x8192.size a) (fo : Buf (Elt F) ((c : Thread nD τ).loc main_v1))
    (Z : FVec F S512x2048 .f32) (hZ : Z = act s (accN m c n 7)) :
    (pts c (outCols o inb) fullShare ((outCols o inb).view.writes (Elt F) fo [⟨Rect.whole S512x2048, Z⟩]) : sProp 𝕄)
      = pts c (outCols o inb) fullShare (outF m c s) := by
  subst ho
  refine pointsTo_congr fun i hi => ?_
  refine (writes_whole_congr (outCols (2048 * n.val) inb).view fo Z hi).trans ?_
  obtain ⟨y, -, hy⟩ := Finset.mem_map.mp hi
  refine Eq.trans ?_ (outF_at m c s n i y (outCols_emb n inb y i hy.symm)).symm
  subst hy hZ
  exact View.write_emb_of_mem _ _ (Finset.mem_univ y)

attribute [local sl_rounds] duties_send duties_recv amount_send amount_recv expect_send expect_recv payload_recv payload_send1 payload_send2 payload_send3 payload_send4 payload_send5 payload_send6 payload_send7

set_option maxHeartbeats 4000000 in
set_option maxRecDepth 8192 in
/-- The body, run on device `c` from what it holds, ends with what is to be left. -/
theorem run (c : Dev nD) (W : Waits sig Unit)
    (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (fo : Buf (Elt F) ((c : Thread nD τ).loc main_v1))
    (g0 : Buf (Elt F) ((c : Thread nD τ).loc cc0_stg0_0)) (g1 : Buf (Elt F) ((c : Thread nD τ).loc cc0_stg1_0)) :
    Runs m κ c W f0 f1 f2 f3 f4 fo g0 g1 := by
  refine (body1 m κ c W f0 f1 f2 f3 f4 fo g0 g1).2 ((body2 m κ c W f0 f1 f2 f3 f4 fo g0 g1).2 ((body3 m κ c W f0 f1 f2 f3 f4 fo g0 g1).2 ?_))
  sl_resume
  sl_exec_parts
  sl_step
  iapply HK
  unfold left weights
  ihave V0 := (Entails.of_eq (out_group m c (scale c g0 g1) 0 rfl _ fo _ (cp_0 m c f3 g0 g1))) $$ V0
  ihave V1 := (Entails.of_eq (out_group m c (scale c g0 g1) 1 rfl _ fo _ (cp_1 m c f3 g0 g1))) $$ V1
  ihave V2 := (Entails.of_eq (out_group m c (scale c g0 g1) 2 rfl _ fo _ (cp_2 m c f3 g0 g1))) $$ V2
  ihave V3 := (Entails.of_eq (out_group m c (scale c g0 g1) 3 rfl _ fo _ (cp_3 m c f3 g0 g1))) $$ V3
  ihave As1_pay1 := (Entails.of_eq (at1 c (sbF m c)).symm) $$ As1_pay1
  ihave As2_pay1 := (Entails.of_eq (at2 c (sbF m c)).symm) $$ As2_pay1
  ihave As3_pay1 := (Entails.of_eq (at3 c (sbF m c)).symm) $$ As3_pay1
  ihave As4_pay1 := (Entails.of_eq (at4 c (sbF m c)).symm) $$ As4_pay1
  ihave As5_pay1 := (Entails.of_eq (at5 c (sbF m c)).symm) $$ As5_pay1
  ihave As6_pay1 := (Entails.of_eq (at6 c (sbF m c)).symm) $$ As6_pay1
  ihave As7_pay1 := (Entails.of_eq (at7 c (sbF m c)).symm) $$ As7_pay1
  ihave Hv := (Entails.of_eq (out_cols c (outF m c (scale c g0 g1))).symm) $$ [V0 V1 V2 V3]
  · isplitl [V0]
    · iexact V0
    isplitl [V1]
    · iexact V1
    isplitl [V2]
    · iexact V2
    iexact V3
  isplitl [Hg0 Hg1 Hv Hx W0 W1 W2 W3]
  · iframe
  isplitl [Hat As1 As2 As3 As4 As5 As6 As7 Ar1 Ar2 Ar3 Ar4 Ar5 Ar6 Ar7]
  · iframe
  isplitl [S18 S19 S20 S21 S22 S23 S24 S25 S26 S27]
  · isplitl [S18]
    · iexact S18
    isplitl [S19]
    · iexact S19
    isplitl [S20]
    · iexact S20
    isplitl [S21]
    · iexact S21
    isplitl [S22]
    · iexact S22
    isplitl [S23]
    · iexact S23
    isplitl [S24]
    · iexact S24
    isplitl [S25]
    · iexact S25
    isplitl [S26]
    · iexact S26
    iexact S27
  isplitl [HO]
  · iexists _
    iexact HO
  isplitl [Hown As1_pay1 As2_pay1 As3_pay1 As4_pay1 As5_pay1 As6_pay1 As7_pay1]
  · iframe
  isplitl [C0 Ar1_pay1 Ar2_pay1 Ar3_pay1 Ar4_pay1 Ar5_pay1 Ar6_pay1 Ar7_pay1]
  · iframe
  isplitl [B0 B1 B2 B3]
  · isplitl [B0]
    · iexists _
      iexact B0
    isplitl [B1]
    · iexists _
      iexact B1
    isplitl [B2]
    · iexists _
      iexact B2
    iexists _
    iexact B3
  isplitl [Hob]
  · iexists _
    iexact Hob
  iexists _
  iexact Hxb

end Cert.AllToAll

end
-- ==== Proof.Launch.lean ====
/-
  The launch: what every device starts from and ends with, the body at the grid's one point, and the run of all devices.
-/
module

public import proofs.«01_k».proof.Proof.Ghost
public import proofs.«01_k».proof.Proof.Body4
public import proofs.«01_k».proof.Proof.Gen.KernelIdeal.Frame
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (ρ : Dev nD → PrngReg)

open Idealize.ShloMosaic.Pipeline (Dat Cfg Window BodyObligation cellOf)

/-! ## Arrays in parts -/

omit [FloatOps F] in
/-- A whole buffer's view selects all of it. -/
theorem pts_whole (c : Dev nD) (b : Ref sig .tc) (q : PosShare TreeShare) (f : Buf (Elt F) ((c : Thread nD τ).loc b)) :
    (((c : Thread nD τ).loc b ↦[(Memref.whole b).view.set]{q} f) : sProp 𝕄) = ((c : Thread nD τ).loc b ↦{q} f) :=
  congrArg (fun S => ((c : Thread nD τ).loc b ↦[S]{q} f : sProp 𝕄)) (View.set_whole b)

/-- The shares of the weights the body does not take. -/
def aside (c : Dev nD) : sProp 𝕄 :=
  iprop((((c : Thread nD τ).loc main_arg1) ↦{Transfers.shareDrop fullShare 28} m ((c : Thread nD τ).loc main_arg1))
    ∗ bigSep (Finset.univ \ ({19, 20, 21, 22} : Finset (Fin 28))) fun i => ((c : Thread nD τ).loc main_arg1) ↦{Transfers.shareTok fullShare 28 i} m ((c : Thread nD τ).loc main_arg1))

omit [FloatOps F] in
/-- A family over eight places, and one over four, written out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- A family over four, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- The weights are four of 28 read shares and the rest. -/
theorem weights_split (c : Dev nD) :
    (((c : Thread nD τ).loc main_arg1 ↦{fullShare} m ((c : Thread nD τ).loc main_arg1)) : sProp 𝕄) ⊢ iprop(weights m c ∗ aside m c) := by
  unfold weights aside
  refine (Transfers.pointsTo_toks_split fullShare 28).trans ?_
  rw [bigSep_sdiff_split (t := ({19, 20, 21, 22} : Finset (Fin 28))) (Finset.subset_univ _),
    bigSep_eq_bigSepL_of_eq (S := ({19, 20, 21, 22} : Finset (Fin 28))) [19, 20, 21, 22] (by decide) (by decide),
    bigSepL_cons_cons, bigSepL_cons_cons, bigSepL_cons_cons, bigSepL_singleton]
  show (iprop(_ ∗ (_ ∗ _ ∗ _ ∗ _) ∗ _) : sProp 𝕄) ⊢ iprop((_ ∗ _ ∗ _ ∗ _) ∗ _ ∗ _)
  iintro ⟨HD, ⟨H1, H2, H3, H4⟩, HR⟩
  isplitl [H1 H2 H3 H4]
  · isplitl [H1]
    · iapply (Entails.of_eq (pts_whole c main_arg1 _ _).symm)
      iexact H1
    isplitl [H2]
    · iapply (Entails.of_eq (pts_whole c main_arg1 _ _).symm)
      iexact H2
    isplitl [H3]
    · iapply (Entails.of_eq (pts_whole c main_arg1 _ _).symm)
      iexact H3
    iapply (Entails.of_eq (pts_whole c main_arg1 _ _).symm)
    iexact H4
  isplitl [HD]
  · iexact HD
  iexact HR

omit [FloatOps F] in
/-- Put together again. -/
theorem weights_join (c : Dev nD) :
    iprop(weights m c ∗ aside m c) ⊢ (((c : Thread nD τ).loc main_arg1 ↦{fullShare} m ((c : Thread nD τ).loc main_arg1)) : sProp 𝕄) := by
  unfold weights aside
  refine BIBase.Entails.trans ?_ (Transfers.pointsTo_toks_join fullShare 28)
  rw [bigSep_sdiff_split (t := ({19, 20, 21, 22} : Finset (Fin 28))) (Finset.subset_univ _),
    bigSep_eq_bigSepL_of_eq (S := ({19, 20, 21, 22} : Finset (Fin 28))) [19, 20, 21, 22] (by decide) (by decide),
    bigSepL_cons_cons, bigSepL_cons_cons, bigSepL_cons_cons, bigSepL_singleton]
  show (iprop((_ ∗ _ ∗ _ ∗ _) ∗ _ ∗ _) : sProp 𝕄) ⊢ iprop(_ ∗ (_ ∗ _ ∗ _ ∗ _) ∗ _)
  iintro ⟨⟨H1, H2, H3, H4⟩, HD, HR⟩
  isplitl [HD]
  · iexact HD
  isplitl [H1 H2 H3 H4]
  · isplitl [H1]
    · iapply (Entails.of_eq (pts_whole c main_arg1 _ _))
      iexact H1
    isplitl [H2]
    · iapply (Entails.of_eq (pts_whole c main_arg1 _ _))
      iexact H2
    isplitl [H3]
    · iapply (Entails.of_eq (pts_whole c main_arg1 _ _))
      iexact H3
    iapply (Entails.of_eq (pts_whole c main_arg1 _ _))
    iexact H4
  iexact HR

omit [FloatOps F] in
/-- A landing slot, named from the device that fills it. -/
theorem slot_named (c : Dev nD) (d e : ℕ) (he : e < 8) (h : (d + e) % 8 = 0) (f : Buf (Elt F) ((c : Thread nD τ).loc cc0_scratch1)) :
    (cmPts c e he f : sProp 𝕄) ⊢ iprop(∃ f, cmPts (peer (peer c d) e) e he f) := by
  rw [peer_peer c d e h]
  iintro H
  iexists f
  iexact H

/-! ## Start and end -/

/-- The staged scalars. -/
def st0 (c : Dev nD) : Buf (Elt F) ((c : Thread nD τ).loc cc0_stg0_0) := ((cfg0.win 0).blk t0_0).view.read (Elt F) (m ((c : Thread nD τ).loc main_arg2))
def st1 (c : Dev nD) : Buf (Elt F) ((c : Thread nD τ).loc cc0_stg1_0) := ((cfg0.win 1).blk t0_0).view.read (Elt F) (m ((c : Thread nD τ).loc main_arg3))

/-- What device `c` computes. -/
def result (c : Dev nD) : Buf (Elt F) ((c : Thread nD τ).loc main_v1) := outF m c (scale c (st0 m c) (st1 m c))

/-- What device `c` starts from, besides its scratch buffers. -/
def start (c : Dev nD) : sProp 𝕄 :=
  iprop(((∃ κ : GSem nD τ sig → ℕ, ghost m κ c) ∗ spare c) ∗ Pipeline.launchCred O₀ c ∗ levAts L lv
    ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

/-- What device `c` ends with, besides its own semaphores and scratch buffers. -/
def finished (c : Dev nD) : sProp 𝕄 :=
  iprop(unscopedSems0 c
    ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} result m c))

/-- Before the point and after it. -/
def phi0 (c : Dev nD) : sProp 𝕄 := iprop(start m c ∗ Pipeline.scopedRest cfg0.spec c)
def phi1 (c : Dev nD) : sProp 𝕄 := iprop(finished m c ∗ Pipeline.ownSems0 osem c ∗ Pipeline.scopedRest cfg0.spec c)

/-- The proof data of the one region. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => st0 m c
    | ⟨1, _⟩ => st1 m c
  Φ t := match t with
    | ⟨0, _⟩ => phi0 m c
    | ⟨_ + 1, _⟩ => phi1 m c
  q _ := fullShare
  owed t := match t with
    | ⟨0, _⟩ => O₀ c
    | ⟨_ + 1, _⟩ => 0

omit [FloatOps F] in
/-- Owning a whole buffer is a points-to of its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The first scalar is staged when the body starts, -/
theorem before0 (c : Dev nD) (d) : (dats m ρ 0 c).before 0 t0_0 d = st0 m c := by
  unfold Dat.before; rw [if_pos (by rfl)]; rfl
/-- and so is the second. -/
theorem before1 (c : Dev nD) (d) : (dats m ρ 0 c).before 1 t0_0 d = st1 m c := by
  unfold Dat.before; rw [if_pos (by rfl)]; rfl

/-! ## The body -/

/-- A staging buffer, whole, at `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body meets and what it leaves, in the launch's words. -/
def bodyPre (c : Dev nD) : sProp 𝕄 :=
  iprop(phi0 m c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
/-- What the body leaves to the pipeline. -/
def bodyPost (c : Dev nD) : sProp 𝕄 :=
  iprop(phi1 m c ∗ (dats m ρ 0 c).owesAt () t0_0.succ ∗ stg c cc0_stg0_0 (st0 m c) ∗ stg c cc0_stg1_0 (st1 m c))

set_option maxHeartbeats 4000000 in
/-- What the launch hands over is what the body is run from. -/
theorem enter (c : Dev nD) : bodyPre m ρ c ⊢ iprop(∃ κ : GSem nD τ sig → ℕ, ∃ W f0 f1 f2 f3 f4,
    held m κ c W f0 f1 f2 f3 f4 (m ((c : Thread nD τ).loc main_v1)) (st0 m c) (st1 m c) ∗ (inv m κ (barCell c) ∗ (inv m κ (sendCell c 1) ∗ inv m κ (sendCell c 2) ∗ inv m κ (sendCell c 3) ∗ inv m κ (sendCell c 4) ∗ inv m κ (sendCell c 5) ∗ inv m κ (sendCell c 6) ∗ inv m κ (sendCell c 7)) ∗ (inv m κ (recvCell c 1) ∗ inv m κ (recvCell c 2) ∗ inv m κ (recvCell c 3) ∗ inv m κ (recvCell c 4) ∗ inv m κ (recvCell c 5) ∗ inv m κ (recvCell c 6) ∗ inv m κ (recvCell c 7))) ∗ aside m c ∗ (semVal ((c : Thread nD τ), .dma 2) 0 ∗ semVal ((c : Thread nD τ), .dma 10) 0)) := by
  unfold bodyPre phi0 start stg
  rw [scopedRest0_eq]
  simp only [before0, before1]
  unfold Dat.owesAt Pipeline.owesWithin
  rw [show (dats m ρ 0 c).owed t0_0.castSucc = O₀ c from rfl]
  iintro ⟨⟨⟨⟨⟨%κ, Hg⟩, Hsp⟩, Hcr, #Hlev, Ha0, Ha1, Hv1⟩, ⟨%f0, Hs0⟩, ⟨%f1, Hs1⟩, ⟨%f2, Hs2⟩, ⟨%f3, Hs3⟩, ⟨%f4, Hs4⟩⟩, ⟨%W, %hW, HO⟩, ⟨%d0, %g0, %hg0, Hg0⟩, ⟨%d1, %g1, %hg1, Hg1⟩⟩
  subst hg0 hg1
  unfold ghost
  icases Hg with ⟨#HIB, #HRB, HTB, HaB, #HIS, #HIR, #HIP, #HRS, #HRP, HTS, HTP, HaS, HaR⟩
  unfold spare
  icases Hsp with ⟨S2, S10, S18, S19, S20, S21, S22, S23, S24, S25, S26, S27⟩
  ihave Hcr := (creds (F := F) c) $$ Hcr
  icases Hcr with ⟨HcB, HcR⟩
  ihave Hw := (weights_split (F := F) m c) $$ Ha1
  icases Hw with ⟨Hw, Has⟩
  ihave Hcm := (Entails.of_eq ((cm_slots c f1).trans (eight _))) $$ Hs1
  icases Hcm with ⟨C0, C1, C2, C3, C4, C5, C6, C7⟩
  ihave Hwb := (Entails.of_eq ((wb_slots c f2).trans (four _))) $$ Hs2
  iexists κ
  iexists W
  iexists f0
  iexists f1
  iexists f2
  iexists f3
  iexists f4
  isplitl [HTB HaB HTS HTP HaS HaR S18 S19 S20 S21 S22 S23 S24 S25 S26 S27 HcB HcR Hw C0 C1 C2 C3 C4 C5 C6 C7 Hwb Hs0 Hs3 Hs4 HO Hg0 Hg1 Ha0 Hv1]
  · unfold held
    isplitl [HTB HaB HcB C0 C1 C2 C3 C4 C5 C6 C7]
    · unfold meet
      isplitr
      · iexact HIB
      isplitr
      · iexact HRB
      isplitr
      · iexact Hlev
      isplitl [HTB]
      · iexact HTB
      isplitl [HaB]
      · iexact HaB
      isplitl [HcB]
      · iexact HcB
      isplitl [C0]
      · iexact C0
      isplitl [C7]
      · iapply (slot_named (F := F) c 1 7 (of_decide_eq_true rfl) (of_decide_eq_true rfl) f1)
        iexact C7
      isplitl [C6]
      · iapply (slot_named (F := F) c 2 6 (of_decide_eq_true rfl) (of_decide_eq_true rfl) f1)
        iexact C6
      isplitl [C5]
      · iapply (slot_named (F := F) c 3 5 (of_decide_eq_true rfl) (of_decide_eq_true rfl) f1)
        iexact C5
      isplitl [C4]
      · iapply (slot_named (F := F) c 4 4 (of_decide_eq_true rfl) (of_decide_eq_true rfl) f1)
        iexact C4
      isplitl [C3]
      · iapply (slot_named (F := F) c 5 3 (of_decide_eq_true rfl) (of_decide_eq_true rfl) f1)
        iexact C3
      isplitl [C2]
      · iapply (slot_named (F := F) c 6 2 (of_decide_eq_true rfl) (of_decide_eq_true rfl) f1)
        iexact C2
      iapply (slot_named (F := F) c 7 1 (of_decide_eq_true rfl) (of_decide_eq_true rfl) f1)
      iexact C1
    isplitl [HTS HTP HaS HaR HcR]
    · unfold exchange
      isplitr
      · iexact HIS
      isplitr
      · iexact HIR
      isplitr
      · iexact HIP
      isplitr
      · iexact HRS
      isplitr
      · iexact HRP
      isplitl [HTS]
      · iexact HTS
      isplitl [HTP]
      · iexact HTP
      isplitl [HaS]
      · iexact HaS
      isplitl [HaR]
      · iexact HaR
      iexact HcR
    isplitl [Hg0 Hg1 Hs3 Hv1 S18 S23 S24 S25 S26]
    · unfold finish
      isplitl [Hg0]
      · iapply (Entails.of_eq (pts_whole c cc0_stg0_0 fullShare _).symm)
        iexact Hg0
      isplitl [Hg1]
      · iapply (Entails.of_eq (pts_whole c cc0_stg1_0 fullShare _).symm)
        iexact Hg1
      isplitl [Hs3]
      · iapply (Entails.of_eq (pts_whole c cc0_scratch3 fullShare _).symm)
        iexact Hs3
      isplitl [Hv1]
      · iapply (Entails.of_eq (pts_whole c main_v1 fullShare _).symm)
        iexact Hv1
      isplitl [S18]
      · iexact S18
      isplitl [S23]
      · iexact S23
      isplitl [S24]
      · iexact S24
      isplitl [S25]
      · iexact S25
      iexact S26
    isplitl [HO]
    · iexact HO
    isplitl [Ha0]
    · iapply (Entails.of_eq (pts_whole c main_arg0 fullShare _).symm)
      iexact Ha0
    isplitl [Hw]
    · iexact Hw
    isplitl [Hs0]
    · iapply (Entails.of_eq (pts_whole c cc0_scratch0 fullShare _).symm)
      iexact Hs0
    isplitl [Hwb]
    · iexact Hwb
    isplitl [Hs4]
    · iapply (Entails.of_eq (pts_whole c cc0_scratch4 fullShare _).symm)
      iexact Hs4
    isplitl [S27]
    · iexact S27
    isplitl [S19]
    · iexact S19
    isplitl [S20]
    · iexact S20
    isplitl [S21]
    · iexact S21
    iexact S22
  isplitr
  · icases HIB with ⟨#HB, -⟩
    isplitr
    · iexact HB
    isplitr
    · iexact HIS
    iexact HIR
  isplitl [Has]
  · iexact Has
  isplitl [S2]
  · iexact S2
  iexact S10

set_option maxHeartbeats 4000000 in
/-- What the body leaves is, its cells closed, what the launch wants back. -/
theorem leave (c : Dev nD) : iprop(left m c (st0 m c) (st1 m c) ∗ (inv m κ (barCell c) ∗ (inv m κ (sendCell c 1) ∗ inv m κ (sendCell c 2) ∗ inv m κ (sendCell c 3) ∗ inv m κ (sendCell c 4) ∗ inv m κ (sendCell c 5) ∗ inv m κ (sendCell c 6) ∗ inv m κ (sendCell c 7)) ∗ (inv m κ (recvCell c 1) ∗ inv m κ (recvCell c 2) ∗ inv m κ (recvCell c 3) ∗ inv m κ (recvCell c 4) ∗ inv m κ (recvCell c 5) ∗ inv m κ (recvCell c 6) ∗ inv m κ (recvCell c 7))) ∗ aside m c ∗ (semVal ((c : Thread nD τ), .dma 2) 0 ∗ semVal ((c : Thread nD τ), .dma 10) 0))
    ⊢ |={Set.univ}=> bodyPost m ρ c := by
  unfold left
  iintro ⟨⟨⟨Hg0, Hg1, Hv1, Ha0, Hw⟩, ⟨HaB, ⟨As1, As2, As3, As4, As5, As6, As7⟩, ⟨Ar1, Ar2, Ar3, Ar4, Ar5, Ar6, Ar7⟩⟩, ⟨S18, S19, S20, S21, S22, S23, S24, S25, S26, S27⟩, ⟨%W, HO⟩, ⟨B0, B1, B2, B3, B4, B5, B6, B7⟩, ⟨C0, C1, C2, C3, C4, C5, C6, C7⟩, ⟨⟨%w0, W0⟩, ⟨%w1, W1⟩, ⟨%w2, W2⟩, ⟨%w3, W3⟩⟩, ⟨%o, Hob⟩, ⟨%x, Hxb⟩⟩, ⟨#HIB, ⟨#Is1, #Is2, #Is3, #Is4, #Is5, #Is6, #Is7⟩, ⟨#Ir1, #Ir2, #Ir3, #Ir4, #Ir5, #Ir6, #Ir7⟩⟩, Has, S2, S10⟩
  imod (Rounds.cell_close ER (a2aRd m) (Set.mem_univ (κ (barCell c))) (fun h => h) (R := 1) (duties_later m (barCell c))) $$ [HaB] with ZB
  · isplitr
    · iexact HIB
    iexact HaB
  imod (Rounds.cell_close ER (a2aRd m) (Set.mem_univ (κ (sendCell c 1))) (fun h => h) (R := 1) (duties_later m (sendCell c 1))) $$ [As1] with Zs1
  · isplitr
    · iexact Is1
    iexact As1
  imod (Rounds.cell_close ER (a2aRd m) (Set.mem_univ (κ (sendCell c 2))) (fun h => h) (R := 1) (duties_later m (sendCell c 2))) $$ [As2] with Zs2
  · isplitr
    · iexact Is2
    iexact As2
  imod (Rounds.cell_close ER (a2aRd m) (Set.mem_univ (κ (sendCell c 3))) (fun h => h) (R := 1) (duties_later m (sendCell c 3))) $$ [As3] with Zs3
  · isplitr
    · iexact Is3
    iexact As3
  imod (Rounds.cell_close ER (a2aRd m) (Set.mem_univ (κ (sendCell c 4))) (fun h => h) (R := 1) (duties_later m (sendCell c 4))) $$ [As4] with Zs4
  · isplitr
    · iexact Is4
    iexact As4
  imod (Rounds.cell_close ER (a2aRd m) (Set.mem_univ (κ (sendCell c 5))) (fun h => h) (R := 1) (duties_later m (sendCell c 5))) $$ [As5] with Zs5
  · isplitr
    · iexact Is5
    iexact As5
  imod (Rounds.cell_close ER (a2aRd m) (Set.mem_univ (κ (sendCell c 6))) (fun h => h) (R := 1) (duties_later m (sendCell c 6))) $$ [As6] with Zs6
  · isplitr
    · iexact Is6
    iexact As6
  imod (Rounds.cell_close ER (a2aRd m) (Set.mem_univ (κ (sendCell c 7))) (fun h => h) (R := 1) (duties_later m (sendCell c 7))) $$ [As7] with Zs7
  · isplitr
    · iexact Is7
    iexact As7
  imod (Rounds.cell_close ER (a2aRd m) (Set.mem_univ (κ (recvCell c 1))) (fun h => h) (R := 1) (duties_later m (recvCell c 1))) $$ [Ar1] with Zr1
  · isplitr
    · iexact Ir1
    iexact Ar1
  imod (Rounds.cell_close ER (a2aRd m) (Set.mem_univ (κ (recvCell c 2))) (fun h => h) (R := 1) (duties_later m (recvCell c 2))) $$ [Ar2] with Zr2
  · isplitr
    · iexact Ir2
    iexact Ar2
  imod (Rounds.cell_close ER (a2aRd m) (Set.mem_univ (κ (recvCell c 3))) (fun h => h) (R := 1) (duties_later m (recvCell c 3))) $$ [Ar3] with Zr3
  · isplitr
    · iexact Ir3
    iexact Ar3
  imod (Rounds.cell_close ER (a2aRd m) (Set.mem_univ (κ (recvCell c 4))) (fun h => h) (R := 1) (duties_later m (recvCell c 4))) $$ [Ar4] with Zr4
  · isplitr
    · iexact Ir4
    iexact Ar4
  imod (Rounds.cell_close ER (a2aRd m) (Set.mem_univ (κ (recvCell c 5))) (fun h => h) (R := 1) (duties_later m (recvCell c 5))) $$ [Ar5] with Zr5
  · isplitr
    · iexact Ir5
    iexact Ar5
  imod (Rounds.cell_close ER (a2aRd m) (Set.mem_univ (κ (recvCell c 6))) (fun h => h) (R := 1) (duties_later m (recvCell c 6))) $$ [Ar6] with Zr6
  · isplitr
    · iexact Ir6
    iexact Ar6
  imod (Rounds.cell_close ER (a2aRd m) (Set.mem_univ (κ (recvCell c 7))) (fun h => h) (R := 1) (duties_later m (recvCell c 7))) $$ [Ar7] with Zr7
  · isplitr
    · iexact Ir7
    iexact Ar7
  imodintro
  unfold bodyPost phi1 finished stg
  rw [scopedRest0_eq, unscoped_eq]
  unfold Dat.owesAt Pipeline.owesWithin
  rw [show (dats m ρ 0 c).owed t0_0.succ = 0 from rfl]
  isplitr [HO Hg0 Hg1]
  · isplitl [ZB Ha0 Hw Has Hv1]
    · isplitl [ZB]
      · iexact ZB
      isplitl [Ha0]
      · iapply (Entails.of_eq (pts_whole c main_arg0 fullShare _))
        iexact Ha0
      isplitl [Hw Has]
      · iapply (weights_join (F := F) m c)
        isplitl [Hw]
        · iexact Hw
        iexact Has
      iapply (Entails.of_eq (pts_whole c main_v1 fullShare _))
      iexact Hv1
    isplitl [Zs1 Zs2 Zs3 Zs4 Zs5 Zs6 Zs7 Zr1 Zr2 Zr3 Zr4 Zr5 Zr6 Zr7 S2 S10 S18 S19 S20 S21 S22 S23 S24 S25 S26 S27]
    · iapply (own_in (F := F) c)
      isplitl [Zs1 Zs2 Zs3 Zs4 Zs5 Zs6 Zs7]
      · isplitl [Zs1]
        · iexact Zs1
        isplitl [Zs2]
        · iexact Zs2
        isplitl [Zs3]
        · iexact Zs3
        isplitl [Zs4]
        · iexact Zs4
        isplitl [Zs5]
        · iexact Zs5
        isplitl [Zs6]
        · iexact Zs6
        iexact Zs7
      isplitl [Zr1 Zr2 Zr3 Zr4 Zr5 Zr6 Zr7]
      · isplitl [Zr1]
        · iexact Zr1
        isplitl [Zr2]
        · iexact Zr2
        isplitl [Zr3]
        · iexact Zr3
        isplitl [Zr4]
        · iexact Zr4
        isplitl [Zr5]
        · iexact Zr5
        isplitl [Zr6]
        · iexact Zr6
        iexact Zr7
      unfold spare
      isplitl [S2]
      · iexact S2
      isplitl [S10]
      · iexact S10
      isplitl [S18]
      · iexact S18
      isplitl [S19]
      · iexact S19
      isplitl [S20]
      · iexact S20
      isplitl [S21]
      · iexact S21
      isplitl [S22]
      · iexact S22
      isplitl [S23]
      · iexact S23
      isplitl [S24]
      · iexact S24
      isplitl [S25]
      · iexact S25
      isplitl [S26]
      · iexact S26
      iexact S27
    isplitl [B0 B1 B2 B3 B4 B5 B6 B7]
    · iapply (sb_join c fun _ => sbF m c)
      iapply (Entails.of_eq (eight
        (fun t : Fin 8 => ((c : Thread nD τ).loc cc0_scratch0 ↦[sbSet c t]{fullShare} sbF m c : sProp 𝕄))).symm)
      isplitl [B0]
      · iexact B0
      isplitl [B1]
      · iexact B1
      isplitl [B2]
      · iexact B2
      isplitl [B3]
      · iexact B3
      isplitl [B4]
      · iexact B4
      isplitl [B5]
      · iexact B5
      isplitl [B6]
      · iexact B6
      iexact B7
    isplitl [C0 C1 C2 C3 C4 C5 C6 C7]
    · iapply (cm_join c fun _ => cmF m c)
      iapply (Entails.of_eq (eight
        (fun t : Fin 8 => (cmPts c t.val t.isLt (cmF m c) : sProp 𝕄))).symm)
      isplitl [C0]
      · iexact C0
      isplitl [C1]
      · iexact C1
      isplitl [C2]
      · iexact C2
      isplitl [C3]
      · iexact C3
      isplitl [C4]
      · iexact C4
      isplitl [C5]
      · iexact C5
      isplitl [C6]
      · iexact C6
      iexact C7
    isplitl [W0 W1 W2 W3]
    · iapply (wb_join c ![w0, w1, w2, w3])
      iapply (Entails.of_eq (four
        (fun t : Fin 4 => (pts c (wbSlot t.val (inb_wslot t.isLt)) fullShare ((![w0, w1, w2, w3] : Fin 4 → Buf (Elt F) ((c : Thread nD τ).loc cc0_scratch2)) t) : sProp 𝕄))).symm)
      isplitl [W0]
      · iexact W0
      isplitl [W1]
      · iexact W1
      isplitl [W2]
      · iexact W2
      iexact W3
    isplitl [Hob]
    · iexists o
      iapply (Entails.of_eq (pts_whole c cc0_scratch3 fullShare _))
      iexact Hob
    iexists x
    iapply (Entails.of_eq (pts_whole c cc0_scratch4 fullShare _))
    iexact Hxb
  isplitl [HO]
  · iexists W
    isplitr
    · ipureintro
      exact fun _ _ => Or.inl trivial
    iexact HO
  isplitl [Hg0]
  · iexists (st0 m c)
    isplitr
    · ipureintro
      rfl
    iapply (Entails.of_eq (pts_whole c cc0_stg0_0 fullShare _))
    iexact Hg0
  iexists (st1 m c)
  isplitr
  · ipureintro
    rfl
  iapply (Entails.of_eq (pts_whole c cc0_stg1_0 fullShare _))
  iexact Hg1

set_option maxRecDepth 32768 in
/-- The body on device `c`, in the launch's words. -/
theorem sound_body (c : Dev nD) :
    bodyPre m ρ c ⊢ wp frame (wpE (defs₀ (F := F)) Variants.none (c : Thread nD τ) none) Set.univ prog fun _ => bodyPost m ρ c := by
  iintro H
  ihave H := (enter (F := F) m ρ c) $$ H
  icases H with ⟨%κ, %W, %f0, %f1, %f2, %f3, %f4, HH, #HI, Has, HS⟩
  iapply wp_fupd
  iapply (run m κ c W f0 f1 f2 f3 f4 (m ((c : Thread nD τ).loc main_v1)) (st0 m c) (st1 m c) fun _ => iprop(|={Set.univ}=> bodyPost m ρ c))
  isplitl [HH]
  · iexact HH
  iintro HL
  iapply (leave (F := F) m κ ρ c)
  isplitl [HL]
  · iexact HL
  isplitr
  · iexact HI
  isplitl [Has]
  · iexact Has
  iexact HS

set_option maxRecDepth 16384 in
/-- The library's body obligation. -/
theorem body_obligation (c : Dev nD) : BodyObligation (dats (F := F) m ρ 0 c) (defs₀ (F := F)) Variants.none () Set.univ := fun t => by
  rw [fin_N0 t]
  rw [bigSep_W0, bigSep_W0]
  simp only [owns_whole_eq]
  exact sound_body m ρ c

/-! ## The launch's side conditions -/

/-- Every window is held whole. -/
theorem share_eq (c : Dev nD) (w : Fin cfg0.W) : (dats m ρ 0 c).share w = fullShare := by unfold Dat.share; split <;> rfl

/-- What a device starts from, out of what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨⟨Ha0, Ha1, Hv1⟩, Hlev, Hcr, -, HG⟩
  imodintro
  isplitl
  · isplitl [HG]
    · iexact HG
    isplitl [Hcr]
    · iexact Hcr
    isplitl [Hlev]
    · iexact Hlev
    isplitl [Ha0]
    · iexact Ha0
    isplitl [Ha1]
    · iexact Ha1
    iexact Hv1
  · iempintro

/-- The state before the body, -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl]
  unfold phi0
  iintro ⟨Hs, -, Hr⟩
  isplitl [Hs]
  · iexact Hs
  iexact Hr

/-- and after it. -/
theorem phi1_exit (c : Dev nD) :
    (dats m ρ 0 c).Φ (Fin.last cfg0.N) ⊢ iprop(finished m c ∗ Pipeline.ownSems0 osem c ∗ Pipeline.scopedRest cfg0.spec c) :=
  Entails.of_eq (show (dats m ρ 0 c).Φ (Fin.last cfg0.N) = phi1 m c from rfl)

/-- The pipeline may wait for its own copies at any time. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_local c _ (by fin_cases w <;> fin_cases s <;> decide)
    · show _ ⊢ MayWait _ _ () (0 : CellTallies nD τ sig Unit)
      rw [MayWait_zero]
      iintro -
      iempintro

/-! ## The run -/

/-- What is known of device `c` in the end, of the arrays that are not staged. -/
def known (c : Dev nD) (s : MemSt nD τ sig (Elt F)) : Prop :=
  s.mem ((c : Thread nD τ).loc main_v1) = result m c
    ∧ s.mem ((c : Thread nD τ).loc main_arg0) = m ((c : Thread nD τ).loc main_arg0)
    ∧ s.mem ((c : Thread nD τ).loc main_arg1) = m ((c : Thread nD τ).loc main_arg1)

/-- On every device the result is what the device computes and the arguments are what they were, and every counter is at zero. -/
def Done (s : MemSt nD τ sig (Elt F)) : Prop :=
  (∀ c : Dev nD, s.mem ((c : Thread nD τ).loc main_v1) = result m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.sem = fun _ => 0

/-- A finished device and the memory agree. -/
theorem finished_read (c : Dev nD) (s : Phys nD τ sig (Elt F)) :
    iprop(finished m c ∗ emp ∗ SI s) ⊢ |={Set.univ}=>
      (iprop(⌜known m c s.mem ∧ ∀ sm : SemLoc sig, sm.isScoped .tc = false → s.mem.sem ((c.tc : Thread nD τ), sm) = 0⌝ ∗ SI s) : sProp 𝕄) := by
  unfold finished
  iintro ⟨⟨Hu, Ha0, Ha1, Hv1⟩, -, HSI⟩
  icombine HSI Ha0 gives %h0
  icombine HSI Ha1 gives %h1
  icombine HSI Hv1 gives %hv
  imod (Pipeline.unscopedSems0_read (X := unscopedSems0 c) (c := c) fupd_intro s) $$ [Hu HSI] with ⟨%hs, HSI⟩
  · isplitl [Hu] <;> iassumption
  imodintro
  isplitr
  · ipureintro
    exact ⟨⟨Buf.eq_of_forall_mem_univ hv, Buf.eq_of_forall_mem_univ h0, Buf.eq_of_forall_mem_univ h1⟩, hs⟩
  iexact HSI

set_option maxRecDepth 32768 in
/-- The run of all devices, at any float values: from any memory with counters at zero it terminates, and every final state is
    as said. -/
theorem run_main : θ_run defs (onTc (τ := τ) (main (F := F))) (s₀ m ρ) (fun r => Done m r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := by
      iintro Hu
      ihave H := (u₀_split (F := F)) $$ Hu
      icases H with ⟨HP, HX⟩
      imodintro
      isplitl [HP] <;> iassumption)
    (hglob := glob m)
    (hA := fun _ _ => rfl) (hpf := fun _ k => k.elim0)
    (X := start m) (Y := finished m) (Z := fun _ => iprop(emp))
    (hX := start_intro m ρ) (hin := phi0_intro m ρ) (hout := phi1_exit m ρ)
    (QY := fun c s => known m c s ∧ ∀ sm : SemLoc sig, sm.isScoped .tc = false → s.sem ((c.tc : Thread nD τ), sm) = 0)
    (hY := fun c s => finished_read m c s)
    (hQ := fun _ h hs => ⟨fun c => ⟨(h c).2.2.1.1, (h c).2.2.1.2.1, (h c).2.2.1.2.2,
        ((h c).1 0).trans ((dats m ρ 0 c).arrAt_in 0 rfl _), ((h c).1 1).trans ((dats m ρ 0 c).arrAt_in 1 rfl _)⟩,
      sem_eq_zero hs fun c => (h c).2.2.2⟩)

end Cert.AllToAll

end
-- ==== Proof.Algebra.lean ====
/-
The equation of the two results at the extended reals: what a device computes, eight products of 512 terms added in the
order of its own rotation, is its block of rows of the reference's product of 4096 terms, under the same scale and
activation.
-/
module

public import proofs.«01_k».proof.Proof.Launch
public import proofs.«01_k».proof.Proof.Gen.ReferenceIdeal
public import Idealize.ShloMosaic.Lib.Layout
public import Idealize.ShloMosaic.Lib.MatmulPlain
public import Idealize.ShloMosaic.Lib.StackMember
public import Idealize.ShloMosaic.Lib.KernelVsHost
public import Mathlib.Algebra.BigOperators.Fin

@[expose] public section

noncomputable section

namespace Cert.AllToAll

open Cert.KernelIdeal Cert.KernelIdeal.Gen

open Idealize.ShloMosaic
open Idealize.ShloMosaic.TcCoe
open Idealize.ShloMosaic.ValueIdx
open scoped BigOperators

/-! ## Sums -/

/-- A sum over 4096 places, cut into 8 runs of 512. -/
theorem sum_runs {M : Type} [AddCommMonoid M] (f : ℕ → M) :
    (∑ e : Fin 8, ∑ q : Fin 512, f (512 * e.val + q.val)) = ∑ k : Fin 4096, f k.val := by
  rw [← Fintype.sum_prod_type' (f := fun (e : Fin 8) (q : Fin 512) => f (512 * e.val + q.val))]
  refine Fintype.sum_equiv (finProdFinEquiv (m := 8) (n := 512)) _ _ fun x => ?_
  rw [finProdFinEquiv_apply_val, Nat.add_comm]

/-- Walking backwards from any device visits every device once. -/
theorem sum_peers {M : Type} [AddCommMonoid M] (c : Dev nD) (g : Dev nD → M) :
    (∑ d : Fin 8, g (peer c (8 - d.val))) = ∑ e : Fin 8, g e := by
  refine Fintype.sum_equiv
    { toFun := fun d : Fin 8 => (peer c (8 - d.val) : Fin 8)
      invFun := fun e : Fin 8 => (peer c (8 - e.val) : Fin 8)
      left_inv := fun d => ?_
      right_inv := fun d => ?_ } _ _ fun _ => rfl
  all_goals
    have hc : c.val < 8 := c.isLt
    have hd : d.val < 8 := d.isLt
    apply Fin.ext
    simp only [peer_val]
    omega

/-! ## The kernel -/

section Kernel

variable (m : (ℓ : Loc nD τ sig) → Buf (Elt Ideal) ℓ)

/-- Device `c`'s activations, weights and two scalars, as arrays of extended reals. -/
def xs (c : Dev nD) : S4096x512.Idx → EReal := m ((c : Thread nD τ).loc main_arg0)
def ws (c : Dev nD) : S4096x8192.Idx → EReal := m ((c : Thread nD τ).loc main_arg1)
def sx (c : Dev nD) : S1.Idx → EReal := m ((c : Thread nD τ).loc main_arg2)
def sw (c : Dev nD) : S1.Idx → EReal := m ((c : Thread nD τ).loc main_arg3)

/-- One product at one place: 512 terms. -/
theorem contrib_apply (c : Dev nD) (d : ℕ) (n : Fin 4) (r : Fin 512) (k : Fin 2048) :
    contrib m c d n (tileIx r k)
      = ∑ q : Fin 512, xs m (peer c (8 - d)) (blockIx c r q) * ws m c (weightIx (peer c (8 - d)) n q k) := by
  have e : tileIx r k = ix2 r k := by
    funext a
    match a with
    | ⟨0, _⟩ => rfl
    | ⟨1, _⟩ => rfl
  rw [e]
  refine (congrFun (matmul_zero_eq_dotGeneral (DotDims.plain 512 512 2048) none (blkA m c d) _) (ix2 r k)).trans ?_
  exact StackMember.dotGeneral_plain_apply none (blkA m c d) (wTile m c d n) r k

/-- The sum of the eight products, as one sum. -/
theorem accN_apply (c : Dev nD) (n : Fin 4) (i : S512x2048.Idx) :
    accN m c n 7 i = ∑ d : Fin 8, (contrib m c d.val n i : EReal) := by
  rw [Fin.sum_univ_eight]
  rfl

/-- The scale and the activation at one place. -/
theorem act_apply (s : Ideal .f32) (a : FVec Ideal S512x2048 .f32) (i : S512x2048.Idx) :
    act s a i = Ideal.div (a i * s) (Ideal.ofBits .f32 0x3F800000#32
      + Ideal.exp (-(min (Ideal.ofBits .f32 0x42700000#32) (max (Ideal.ofBits .f32 0xC2700000#32) (a i * s))))) := by
  rw [← zero_sub, ← Ideal.ofBits_zero_f32]
  rfl

/-- The one index of a one-element array. -/
theorem ix1_unique (i : S1.Idx) : i = ix1 := by
  funext a
  match a with
  | ⟨0, _⟩ => exact Subsingleton.elim (α := Fin 1) _ _

/-- The scale is the product of the two scalars. -/
theorem scale_ideal (c : Dev nD) : scale c (st0 m c) (st1 m c) = sx m c ix1 * sw m c ix1 := by
  have h0 : (st0 m c : S1.Idx → EReal) ix1 = sx m c ix1 := congrArg (sx m c) (ix1_unique _)
  have h1 : (st1 m c : S1.Idx → EReal) ix1 = sw m c ix1 := congrArg (sw m c) (ix1_unique _)
  rw [← h0, ← h1]
  rfl

/-- The whole result of a device at one place, its arguments being parts of whole arrays: one sum over 4096 terms, scaled
    and activated. -/
theorem result_apply (X : Cert.ReferenceIdeal.S4096x4096.Idx → EReal) (c : Dev nD)
    (hx : ∀ e : Dev nD, xs m e = Layout.block ⟨2, ![4096, 512]⟩ ⟨2, ![4096, 4096]⟩ 1 8 e X) (r : Fin 512) (K : Fin 8192)
    (R : Fin 4096) (hR : R.val = 512 * c.val + r.val) :
    accN m c (grp K) 7 (tileIx r (plc K)) = ∑ k : Fin 4096, X (ix2 R k) * ws m c (ix2 k K) := by
  rw [accN_apply]
  have hd : ∀ d : Fin 8, (contrib m c d.val (grp K) (tileIx r (plc K)) : EReal)
      = ∑ q : Fin 512, (fun k : ℕ => if h : k < 4096 then X (ix2 R ⟨k, h⟩) * ws m c (ix2 ⟨k, h⟩ K) else 0)
          (512 * (peer c (8 - d.val)).val + q.val) := by
    intro d
    rw [contrib_apply]
    refine Finset.sum_congr rfl fun q _ => ?_
    have hp : (peer c (8 - d.val)).val < 8 := (peer c (8 - d.val)).isLt
    have hq := q.isLt
    beta_reduce
    rw [dif_pos (by omega : 512 * (peer c (8 - d.val)).val + q.val < 4096)]
    refine congr (congrArg _ ?_) (congrArg _ ?_)
    · rw [hx]
      refine congrArg X ?_
      funext a
      match a with
      | ⟨0, _⟩ =>
        apply Fin.ext
        show 512 * c.val + r.val = R.val
        exact hR.symm
      | ⟨1, _⟩ =>
        apply Fin.ext
        show (peer c (8 - d.val)).val * 512 + q.val = 512 * (peer c (8 - d.val)).val + q.val
        omega
    · funext a
      match a with
      | ⟨0, _⟩ => rfl
      | ⟨1, _⟩ =>
        apply Fin.ext
        show 2048 * (K.val / 2048) + K.val % 2048 = K.val
        omega
  rw [Finset.sum_congr rfl fun d _ => hd d,
    sum_peers c (fun e => ∑ q : Fin 512, (fun k : ℕ => if h : k < 4096 then X (ix2 R ⟨k, h⟩) * ws m c (ix2 ⟨k, h⟩ K) else 0)
          (512 * e.val + q.val)),
    sum_runs (fun k : ℕ => if h : k < 4096 then X (ix2 R ⟨k, h⟩) * ws m c (ix2 ⟨k, h⟩ K) else 0)]
  exact Finset.sum_congr rfl fun k _ => dif_pos k.isLt

end Kernel

/-! ## The reference -/

section Reference

/-- The reference's result, as its operations compute it from its four arrays. -/
def refOut (X : FVec Ideal Cert.ReferenceIdeal.S4096x4096 .f32) (W : FVec Ideal Cert.ReferenceIdeal.S4096x8192 .f32)
    (a b : FVec Ideal Cert.ReferenceIdeal.S1 .f32) : FVec Ideal Cert.ReferenceIdeal.S4096x8192 .f32 :=
  let y := mulf (Host.dotGeneral Cert.ReferenceIdeal.dot_S4096x4096_S4096x8192_S4096x8192_1_0_0_1_n_n none X W)
    (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf a b)))
  Host.divf y (addf (broadcastInDim Cert.ReferenceIdeal.S4096x8192 ![] Cert.ReferenceIdeal.Facts₀.bcast_S_S4096x8192
      (constant Cert.ReferenceIdeal.S_ .f32 0x3F800000#32))
    (Host.exp (Host.negf (minimumf
      (broadcastInDim Cert.ReferenceIdeal.S4096x8192 ![] Cert.ReferenceIdeal.Facts₀.bcast_S_S4096x8192
        (id (constant Cert.ReferenceIdeal.S_ .f32 0x42700000#32)))
      (maximumf (broadcastInDim Cert.ReferenceIdeal.S4096x8192 ![] Cert.ReferenceIdeal.Facts₀.bcast_S_S4096x8192
        (id (constant Cert.ReferenceIdeal.S_ .f32 0xC2700000#32))) y)))))

/-- The reference's product at one place. -/
theorem refDot_apply (X : FVec Ideal Cert.ReferenceIdeal.S4096x4096 .f32) (W : FVec Ideal Cert.ReferenceIdeal.S4096x8192 .f32)
    (R : Fin 4096) (K : Fin 8192) :
    Host.dotGeneral Cert.ReferenceIdeal.dot_S4096x4096_S4096x8192_S4096x8192_1_0_0_1_n_n none X W (ix2 R K)
      = ∑ k : Fin 4096, (X (ix2 R k) * W (ix2 k K) : EReal) :=
  StackMember.dotGeneral_plain_apply (m := 4096) (k := 4096) (n := 8192) none X W R K

/-- The reference's result at one place. -/
theorem refOut_apply (X : FVec Ideal Cert.ReferenceIdeal.S4096x4096 .f32) (W : FVec Ideal Cert.ReferenceIdeal.S4096x8192 .f32)
    (a b : FVec Ideal Cert.ReferenceIdeal.S1 .f32) (R : Fin 4096) (K : Fin 8192) (y : EReal)
    (hy : y = (∑ k : Fin 4096, (X (ix2 R k) * W (ix2 k K) : EReal)) * ((a ix1 : EReal) * (b ix1 : EReal))) :
    refOut X W a b (ix2 R K) = Ideal.div y (Ideal.ofBits .f32 0x3F800000#32
      + Ideal.exp (-(min (Ideal.ofBits .f32 0x42700000#32) (max (Ideal.ofBits .f32 0xC2700000#32) y)))) := by
  have hs : (broadcastInDim Cert.ReferenceIdeal.S4096x8192 ![0, 1] Cert.ReferenceIdeal.Facts₀.bcast_S1x1_S4096x8192_0_1
      (broadcastInDim Cert.ReferenceIdeal.S1x1 ![1] Cert.ReferenceIdeal.Facts₀.bcast_S1_S1x1_1 (mulf a b))) (ix2 R K)
      = (mulf a b) ix1 := congrArg (mulf a b) (ix1_unique _)
  have e : mulf (Host.dotGeneral Cert.ReferenceIdeal.dot_S4096x4096_S4096x8192_S4096x8192_1_0_0_1_n_n none X W)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf a b))) (ix2 R K) = y := by
    rw [hy, ← refDot_apply]
    exact congrArg (FloatOps.mulf _) hs
  rw [← e]
  rfl

end Reference

/-- **The equation of the two results.** When every device holds its block of columns of the activations and the whole of the
    weights and scalars, its result is its block of rows of the reference's. -/
theorem result_eq (m : (ℓ : Loc nD τ sig) → Buf (Elt Ideal) ℓ) (X : FVec Ideal Cert.ReferenceIdeal.S4096x4096 .f32)
    (W : FVec Ideal Cert.ReferenceIdeal.S4096x8192 .f32) (a b : FVec Ideal Cert.ReferenceIdeal.S1 .f32) (c : Dev nD)
    (hx : ∀ e : Dev nD, xs m e = Layout.block ⟨2, ![4096, 512]⟩ ⟨2, ![4096, 4096]⟩ 1 8 e X)
    (hw : ws m c = W) (ha : sx m c = a) (hb : sw m c = b) :
    result m c = Layout.block ⟨2, ![512, 8192]⟩ ⟨2, ![4096, 8192]⟩ 0 8 c (refOut X W a b) := by
  funext i
  have hi : (i 0).val < 512 := (i 0).isLt
  have hc : c.val < 8 := c.isLt
  let R : Fin 4096 := ⟨512 * c.val + (i 0).val, by omega⟩
  let K : Fin 8192 := i 1
  have h := result_apply m X c hx (i 0) K R rfl
  have e : (show Layout.Tiles ⟨2, ![512, 8192]⟩ ⟨2, ![4096, 8192]⟩ 0 8 by decide).idx c i = ix2 R K := by
    funext x
    match x with
    | ⟨0, _⟩ =>
      apply Fin.ext
      show c.val * 512 + (i 0).val = 512 * c.val + (i 0).val
      omega
    | ⟨1, _⟩ => rfl
  rw [Layout.block_apply, e, refOut_apply X W a b R K _ rfl]
  refine (act_apply (scale c (st0 m c) (st1 m c)) (accN m c (grp K) 7) (tileIx (i 0) (plc K))).trans ?_
  rw [h, scale_ideal, hw, ha, hb]

end Cert.AllToAll

end
-- ==== Proof.lean ====
/-
  The certificate: the five claims of the all-to-all fused with a blocked product (proofs.«01_k».proof.Defs). The kernel's
  run is `Cert.AllToAll.run_main`, proved once over any float values; the two frames of the kernel are it at the
  bit-exact values and at the extended reals, the value claim is it at the extended reals followed by the equation of
  the two results, and the reference's run is the generated one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Over any float values the kernel runs to the end, keeps its arguments and leaves every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
        r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
        r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
        r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0 :=
  (θ_run Cert.KernelIdeal.defs _ _).mono (fun _ h => ⟨fun c => (h.1 c).2, h.2⟩) (Cert.AllToAll.run_main m ρ)

/-- The frame of the kernel at the extended reals. -/
theorem frame_kernelIdeal : Cert.quiescent_KernelIdeal := fun m ρ _ => frame_any (F := Ideal) m ρ

/-- The kernels of the two printings of the program are one table. -/
theorem kernels_eq : Cert.Kernel.defs₀ (F := Bits) = Cert.KernelIdeal.defs₀ := by
  unfold Cert.Kernel.defs₀ Cert.KernelIdeal.defs₀
  refine congrArg Defs.onTc ?_
  funext a b
  rcases a with ⟨_ | a, ha⟩
  · rcases b with ⟨t, s⟩
    show Cert.Kernel.cc0_body .. = Cert.KernelIdeal.cc0_body ..
    rfl
  · exact absurd ha (Nat.not_lt.2 (Nat.le_add_left _ _))

/-- So are their bodies, the pipelines included. -/
theorem defs_eq : Cert.Kernel.defs (F := Bits) = Cert.KernelIdeal.defs :=
  congrArg (Pipeline.defs Cert.Kernel.pcfgs) kernels_eq

/-- The frame of the kernel at the bit-exact values. -/
theorem frame_kernel : Cert.quiescent_Kernel := by
  intro m ρ _
  rw [defs_eq]
  exact frame_any (F := Bits) m ρ

/-- The reference runs to the end and keeps its arguments; it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At the extended reals every device ends holding its block of rows of the reference's result. -/
theorem value : Cert.algebraic_KernelIdeal_ReferenceIdeal := by
  intro m ρ m' ρ' _ hm
  refine ⟨Cert.AllToAll.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)),
    ?_, ?_⟩
  · exact (θ_run Cert.KernelIdeal.defs _ _).mono
      (fun _ h c => ⟨(h.1 c).1.trans (Cert.AllToAll.result_eq m _ _ _ _ c (fun e => (hm e).1) (hm c).2.1 (hm c).2.2.1
        (hm c).2.2.2), (h.1 c).2⟩)
      (Cert.AllToAll.run_main (F := Ideal) m ρ)
  · exact (θ_run Cert.ReferenceIdeal.defs _ _).mono (fun _ h => h 0) (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
